-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 1024]⟩ ⟨2, ![1024, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![4096, 1024]⟩ ⟨2, ![16384, 1024]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![4096, 1024]⟩ ⟨2, ![16384, 1024]⟩ 0 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 1024]⟩ ⟨2, ![1024, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v25) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x1024 : Shape := ⟨2, ![256, 1024]⟩
abbrev S1024x1024 : Shape := ⟨2, ![1024, 1024]⟩
abbrev S4096x1024 : Shape := ⟨2, ![4096, 1024]⟩
abbrev S3 : Shape := ⟨1, ![3]⟩
abbrev S3x256x1024 : Shape := ⟨3, ![3, 256, 1024]⟩
abbrev S3x256x128 : Shape := ⟨3, ![3, 256, 128]⟩
abbrev S256x128 : Shape := ⟨2, ![256, 128]⟩
abbrev S_ : Shape := ⟨0, ![]⟩
abbrev S1 : Shape := ⟨1, ![1]⟩
abbrev S4096x128 : Shape := ⟨2, ![4096, 128]⟩
abbrev S256x4096 : Shape := ⟨2, ![256, 4096]⟩
abbrev S256 : Shape := ⟨1, ![256]⟩
abbrev S256x1 : Shape := ⟨2, ![256, 1]⟩
abbrev S256x8 : Shape := ⟨2, ![256, 8]⟩
abbrev S1x256x128 : Shape := ⟨3, ![1, 256, 128]⟩
abbrev S1x256x8 : Shape := ⟨3, ![1, 256, 8]⟩
abbrev S1x256x1024 : Shape := ⟨3, ![1, 256, 1024]⟩

abbrev nBuf : Space → Nat
  | .hbm => 6
  | .vmem => 13
  | .smem => 0
  | _ => 0

abbrev bufTy : (tb : Table) → Fin (tcTables nBuf tb) → BufTy
  | .hbm, ⟨0, _⟩ => ⟨S256x1024, .bf16⟩
  | .hbm, ⟨1, _⟩ => ⟨S1024x1024, .bf16⟩
  | .hbm, ⟨2, _⟩ => ⟨S4096x1024, .bf16⟩
  | .hbm, ⟨3, _⟩ => ⟨S4096x1024, .bf16⟩
  | .hbm, ⟨4, _⟩ => ⟨S1024x1024, .bf16⟩
  | .hbm, ⟨5, _⟩ => ⟨S256x1024, .f32⟩
  | .local _ .vmem, ⟨0, _⟩ => ⟨S256x1024, .bf16⟩
  | .local _ .vmem, ⟨1, _⟩ => ⟨S1024x1024, .bf16⟩
  | .local _ .vmem, ⟨2, _⟩ => ⟨S1024x1024, .bf16⟩
  | .local _ .vmem, ⟨3, _⟩ => ⟨S4096x1024, .bf16⟩
  | .local _ .vmem, ⟨4, _⟩ => ⟨S4096x1024, .bf16⟩
  | .local _ .vmem, ⟨5, _⟩ => ⟨S256x1024, .f32⟩
  | .local _ .vmem, ⟨6, _⟩ => ⟨S1024x1024, .bf16⟩
  | .local _ .vmem, ⟨7, _⟩ => ⟨S3x256x1024, .bf16⟩
  | .local _ .vmem, ⟨8, _⟩ => ⟨S3x256x128, .f32⟩
  | .local _ .vmem, ⟨9, _⟩ => ⟨S3x256x1024, .bf16⟩
  | .local _ .vmem, ⟨10, _⟩ => ⟨S3x256x128, .f32⟩
  | .local _ .vmem, ⟨11, _⟩ => ⟨S256x1024, .f32⟩
  | .local _ .vmem, ⟨12, _⟩ => ⟨S256x128, .f32⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  (ofTc nBuf bufTy 1 24 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch11 : Ref sig .tc := ⟨.vmem, 11, rfl⟩
abbrev cc0_scratch12 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v15 : BitVec 32 := Scalar.addi v2 c1_i32_6
  let c4_i32_7 : BitVec 32 := 4#32
  let c0_i32_8 : BitVec 32 := 0#32
  let v16 : BitVec 1 := Scalar.cmpi .eq c4_i32_7 c0_i32_8
  let c1_i32_9 : BitVec 32 := 1#32
  let v17 : BitVec 32 := Scalar.select v16 c1_i32_9 c4_i32_7
  let v18 : BitVec 32 := Scalar.remsi v15 v17
  let c0_i32_11 : BitVec 32 := 0#32
  let v20 : BitVec 1 := Scalar.cmpi .slt v18 c0_i32_11
  let c0_i32_12 : BitVec 32 := 0#32
  let v21 : BitVec 1 := Scalar.cmpi .slt v17 c0_i32_12
  let v22 : BitVec 1 := Scalar.xori v20 v21
  let c0_i32_10 : BitVec 32 := 0#32
  let v19 : BitVec 1 := Scalar.cmpi .ne v18 c0_i32_10
  let v23 : BitVec 1 := Scalar.andi v22 v19
  let v24 : BitVec 32 := Scalar.addi v18 v17
  let v25 : BitVec 32 := Scalar.select v23 v24 v18
  let c1_i32_14 : BitVec 32 := 1#32
  let v26 : BitVec 32 := Scalar.muli v25 c1_i32_14
  let v27 : BitVec 32 := Scalar.addi c0_i32_15 v26
  v27.toNat
def k0_dev2 (d0 : Dev nD) : Nat :=
  let c0_i32_24 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v28 : BitVec 32 := Scalar.addi v2 c2_i32
  let c4_i32_16 : BitVec 32 := 4#32
  let c0_i32_17 : BitVec 32 := 0#32
  let v29 : BitVec 1 := Scalar.cmpi .eq c4_i32_16 c0_i32_17
  let c1_i32_18 : BitVec 32 := 1#32
  let v30 : BitVec 32 := Scalar.select v29 c1_i32_18 c4_i32_16
  let v31 : BitVec 32 := Scalar.remsi v28 v30
  let c0_i32_20 : BitVec 32 := 0#32
  let v33 : BitVec 1 := Scalar.cmpi .slt v31 c0_i32_20
  let c0_i32_21 : BitVec 32 := 0#32
  let v34 : BitVec 1 := Scalar.cmpi .slt v30 c0_i32_21
  let v35 : BitVec 1 := Scalar.xori v33 v34
  let c0_i32_19 : BitVec 32 := 0#32
  let v32 : BitVec 1 := Scalar.cmpi .ne v31 c0_i32_19
  let v36 : BitVec 1 := Scalar.andi v35 v32
  let v37 : BitVec 32 := Scalar.addi v31 v30
  let v38 : BitVec 32 := Scalar.select v36 v37 v31
  let c1_i32_23 : BitVec 32 := 1#32
  let v39 : BitVec 32 := Scalar.muli v38 c1_i32_23
  let v40 : BitVec 32 := Scalar.addi c0_i32_24 v39
  v40.toNat
def k0_dev3 (d0 : Dev nD) : Nat :=
  let c0_i32_33 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v41 : BitVec 32 := Scalar.addi v2 c3_i32
  let c4_i32_25 : BitVec 32 := 4#32
  let c0_i32_26 : BitVec 32 := 0#32
  let v42 : BitVec 1 := Scalar.cmpi .eq c4_i32_25 c0_i32_26
  let c1_i32_27 : BitVec 32 := 1#32
  let v43 : BitVec 32 := Scalar.select v42 c1_i32_27 c4_i32_25
  let v44 : BitVec 32 := Scalar.remsi v41 v43
  let c0_i32_29 : BitVec 32 := 0#32
  let v46 : BitVec 1 := Scalar.cmpi .slt v44 c0_i32_29
  let c0_i32_30 : BitVec 32 := 0#32
  let v47 : BitVec 1 := Scalar.cmpi .slt v43 c0_i32_30
  let v48 : BitVec 1 := Scalar.xori v46 v47
  let c0_i32_28 : BitVec 32 := 0#32
  let v45 : BitVec 1 := Scalar.cmpi .ne v44 c0_i32_28
  let v49 : BitVec 1 := Scalar.andi v48 v45
  let v50 : BitVec 32 := Scalar.addi v44 v43
  let v51 : BitVec 32 := Scalar.select v49 v50 v44
  let c1_i32_32 : BitVec 32 := 1#32
  let v52 : BitVec 32 := Scalar.muli v51 c1_i32_32
  let v53 : BitVec 32 := Scalar.addi c0_i32_33 v52
  v53.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32 : BitVec 32 := 256#32
  let v62 : BitVec 32 := Scalar.muli v2 c256_i32
  let v63 : Index := Scalar.indexCast v62
  let c0_39 : Index := 0#32
  ![v63.toNat, 0]
def k0_off2 (d0 : Dev nD) (c0_i32_40 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v67 : BitVec 32 := Scalar.subi v2 c0_i32_40
  let c4_i32_41 : BitVec 32 := 4#32
  let c0_i32_42 : BitVec 32 := 0#32
  let v68 : BitVec 1 := Scalar.cmpi .eq c4_i32_41 c0_i32_42
  let c1_i32_43 : BitVec 32 := 1#32
  let v69 : BitVec 32 := Scalar.select v68 c1_i32_43 c4_i32_41
  let v70 : BitVec 32 := Scalar.remsi v67 v69
  let c0_i32_45 : BitVec 32 := 0#32
  let v72 : BitVec 1 := Scalar.cmpi .slt v70 c0_i32_45
  let c0_i32_46 : BitVec 32 := 0#32
  let v73 : BitVec 1 := Scalar.cmpi .slt v69 c0_i32_46
  let v74 : BitVec 1 := Scalar.xori v72 v73
  let c0_i32_44 : BitVec 32 := 0#32
  let v71 : BitVec 1 := Scalar.cmpi .ne v70 c0_i32_44
  let v75 : BitVec 1 := Scalar.andi v74 v71
  let v76 : BitVec 32 := Scalar.addi v70 v69
  let v77 : BitVec 32 := Scalar.select v75 v76 v70
  let c256_i32_48 : BitVec 32 := 256#32
  let v79 : BitVec 32 := Scalar.muli v77 c256_i32_48
  let c0_i32_53 : BitVec 32 := 0#32
  ![v79.toNat, 0]
def k0_dev4 (d0 : Dev nD) : Nat :=
  let c0_i32_52 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_51 : BitVec 32 := 1#32
  let v80 : BitVec 32 := Scalar.muli v13 c1_i32_51
  let v81 : BitVec 32 := Scalar.addi c0_i32_52 v80
  v81.toNat
def k0_dev5 (d0 : Dev nD) : Nat :=
  let c0_i32_158 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_157 : BitVec 32 := 1#32
  let v273 : BitVec 32 := Scalar.muli v13 c1_i32_157
  let v274 : BitVec 32 := Scalar.addi c0_i32_158 v273
  v274.toNat
def k0_off3 (d0 : Dev nD) (c1_i32_133 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v243 : BitVec 32 := Scalar.subi v2 c1_i32_133
  let c4_i32_134 : BitVec 32 := 4#32
  let c0_i32_135 : BitVec 32 := 0#32
  let v244 : BitVec 1 := Scalar.cmpi .eq c4_i32_134 c0_i32_135
  let c1_i32_136 : BitVec 32 := 1#32
  let v245 : BitVec 32 := Scalar.select v244 c1_i32_136 c4_i32_134
  let v246 : BitVec 32 := Scalar.remsi v243 v245
  let c0_i32_138 : BitVec 32 := 0#32
  let v248 : BitVec 1 := Scalar.cmpi .slt v246 c0_i32_138
  let c0_i32_139 : BitVec 32 := 0#32
  let v249 : BitVec 1 := Scalar.cmpi .slt v245 c0_i32_139
  let v250 : BitVec 1 := Scalar.xori v248 v249
  let c0_i32_137 : BitVec 32 := 0#32
  let v247 : BitVec 1 := Scalar.cmpi .ne v246 c0_i32_137
  let v251 : BitVec 1 := Scalar.andi v250 v247
  let v252 : BitVec 32 := Scalar.addi v246 v245
  let v253 : BitVec 32 := Scalar.select v251 v252 v246
  let c256_i32_161 : BitVec 32 := 256#32
  let v281 : BitVec 32 := Scalar.muli v253 c256_i32_161
  let v282 : Index := Scalar.indexCast v281
  let c0_162 : Index := 0#32
  ![v282.toNat, 0]
def k0_dev6 (d0 : Dev nD) : Nat :=
  let c0_i32_262 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_133 : BitVec 32 := 1#32
  let v243 : BitVec 32 := Scalar.subi v2 c1_i32_133
  let c4_i32_134 : BitVec 32 := 4#32
  let c0_i32_135 : BitVec 32 := 0#32
  let v244 : BitVec 1 := Scalar.cmpi .eq c4_i32_134 c0_i32_135
  let c1_i32_136 : BitVec 32 := 1#32
  let v245 : BitVec 32 := Scalar.select v244 c1_i32_136 c4_i32_134
  let v246 : BitVec 32 := Scalar.remsi v243 v245
  let c0_i32_138 : BitVec 32 := 0#32
  let v248 : BitVec 1 := Scalar.cmpi .slt v246 c0_i32_138
  let c0_i32_139 : BitVec 32 := 0#32
  let v249 : BitVec 1 := Scalar.cmpi .slt v245 c0_i32_139
  let v250 : BitVec 1 := Scalar.xori v248 v249
  let c0_i32_137 : BitVec 32 := 0#32
  let v247 : BitVec 1 := Scalar.cmpi .ne v246 c0_i32_137
  let v251 : BitVec 1 := Scalar.andi v250 v247
  let v252 : BitVec 32 := Scalar.addi v246 v245
  let v253 : BitVec 32 := Scalar.select v251 v252 v246
  let c1_i32_261 : BitVec 32 := 1#32
  let v444 : BitVec 32 := Scalar.muli v253 c1_i32_261
  let v445 : BitVec 32 := Scalar.addi c0_i32_262 v444
  v445.toNat
def k0_dev7 (d0 : Dev nD) : Nat :=
  let c0_i32_272 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_133 : BitVec 32 := 1#32
  let v243 : BitVec 32 := Scalar.subi v2 c1_i32_133
  let c4_i32_134 : BitVec 32 := 4#32
  let c0_i32_135 : BitVec 32 := 0#32
  let v244 : BitVec 1 := Scalar.cmpi .eq c4_i32_134 c0_i32_135
  let c1_i32_136 : BitVec 32 := 1#32
  let v245 : BitVec 32 := Scalar.select v244 c1_i32_136 c4_i32_134
  let v246 : BitVec 32 := Scalar.remsi v243 v245
  let c0_i32_138 : BitVec 32 := 0#32
  let v248 : BitVec 1 := Scalar.cmpi .slt v246 c0_i32_138
  let c0_i32_139 : BitVec 32 := 0#32
  let v249 : BitVec 1 := Scalar.cmpi .slt v245 c0_i32_139
  let v250 : BitVec 1 := Scalar.xori v248 v249
  let c0_i32_137 : BitVec 32 := 0#32
  let v247 : BitVec 1 := Scalar.cmpi .ne v246 c0_i32_137
  let v251 : BitVec 1 := Scalar.andi v250 v247
  let v252 : BitVec 32 := Scalar.addi v246 v245
  let v253 : BitVec 32 := Scalar.select v251 v252 v246
  let c1_i32_271 : BitVec 32 := 1#32
  let v454 : BitVec 32 := Scalar.muli v253 c1_i32_271
  let v455 : BitVec 32 := Scalar.addi c0_i32_272 v454
  v455.toNat
def k0_dev8 (d0 : Dev nD) : Nat :=
  let c0_i32_302 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_301 : BitVec 32 := 1#32
  let v494 : BitVec 32 := Scalar.muli v13 c1_i32_301
  let v495 : BitVec 32 := Scalar.addi c0_i32_302 v494
  v495.toNat
def k0_dev9 (d0 : Dev nD) : Nat :=
  let c0_i32_405 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_277 : BitVec 32 := 2#32
  let v464 : BitVec 32 := Scalar.subi v2 c2_i32_277
  let c4_i32_278 : BitVec 32 := 4#32
  let c0_i32_279 : BitVec 32 := 0#32
  let v465 : BitVec 1 := Scalar.cmpi .eq c4_i32_278 c0_i32_279
  let c1_i32_280 : BitVec 32 := 1#32
  let v466 : BitVec 32 := Scalar.select v465 c1_i32_280 c4_i32_278
  let v467 : BitVec 32 := Scalar.remsi v464 v466
  let c0_i32_282 : BitVec 32 := 0#32
  let v469 : BitVec 1 := Scalar.cmpi .slt v467 c0_i32_282
  let c0_i32_283 : BitVec 32 := 0#32
  let v470 : BitVec 1 := Scalar.cmpi .slt v466 c0_i32_283
  let v471 : BitVec 1 := Scalar.xori v469 v470
  let c0_i32_281 : BitVec 32 := 0#32
  let v468 : BitVec 1 := Scalar.cmpi .ne v467 c0_i32_281
  let v472 : BitVec 1 := Scalar.andi v471 v468
  let v473 : BitVec 32 := Scalar.addi v467 v466
  let v474 : BitVec 32 := Scalar.select v472 v473 v467
  let c1_i32_404 : BitVec 32 := 1#32
  let v665 : BitVec 32 := Scalar.muli v474 c1_i32_404
  let v666 : BitVec 32 := Scalar.addi c0_i32_405 v665
  v666.toNat
def k0_dev10 (d0 : Dev nD) : Nat :=
  let c0_i32_415 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_277 : BitVec 32 := 2#32
  let v464 : BitVec 32 := Scalar.subi v2 c2_i32_277
  let c4_i32_278 : BitVec 32 := 4#32
  let c0_i32_279 : BitVec 32 := 0#32
  let v465 : BitVec 1 := Scalar.cmpi .eq c4_i32_278 c0_i32_279
  let c1_i32_280 : BitVec 32 := 1#32
  let v466 : BitVec 32 := Scalar.select v465 c1_i32_280 c4_i32_278
  let v467 : BitVec 32 := Scalar.remsi v464 v466
  let c0_i32_282 : BitVec 32 := 0#32
  let v469 : BitVec 1 := Scalar.cmpi .slt v467 c0_i32_282
  let c0_i32_283 : BitVec 32 := 0#32
  let v470 : BitVec 1 := Scalar.cmpi .slt v466 c0_i32_283
  let v471 : BitVec 1 := Scalar.xori v469 v470
  let c0_i32_281 : BitVec 32 := 0#32
  let v468 : BitVec 1 := Scalar.cmpi .ne v467 c0_i32_281
  let v472 : BitVec 1 := Scalar.andi v471 v468
  let v473 : BitVec 32 := Scalar.addi v467 v466
  let v474 : BitVec 32 := Scalar.select v472 v473 v467
  let c1_i32_414 : BitVec 32 := 1#32
  let v675 : BitVec 32 := Scalar.muli v474 c1_i32_414
  let v676 : BitVec 32 := Scalar.addi c0_i32_415 v675
  v676.toNat
def k0_dev11 (d0 : Dev nD) : Nat :=
  let c0_i32_533 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_420 : BitVec 32 := 3#32
  let v685 : BitVec 32 := Scalar.subi v2 c3_i32_420
  let c4_i32_421 : BitVec 32 := 4#32
  let c0_i32_422 : BitVec 32 := 0#32
  let v686 : BitVec 1 := Scalar.cmpi .eq c4_i32_421 c0_i32_422
  let c1_i32_423 : BitVec 32 := 1#32
  let v687 : BitVec 32 := Scalar.select v686 c1_i32_423 c4_i32_421
  let v688 : BitVec 32 := Scalar.remsi v685 v687
  let c0_i32_425 : BitVec 32 := 0#32
  let v690 : BitVec 1 := Scalar.cmpi .slt v688 c0_i32_425
  let c0_i32_426 : BitVec 32 := 0#32
  let v691 : BitVec 1 := Scalar.cmpi .slt v687 c0_i32_426
  let v692 : BitVec 1 := Scalar.xori v690 v691
  let c0_i32_424 : BitVec 32 := 0#32
  let v689 : BitVec 1 := Scalar.cmpi .ne v688 c0_i32_424
  let v693 : BitVec 1 := Scalar.andi v692 v689
  let v694 : BitVec 32 := Scalar.addi v688 v687
  let v695 : BitVec 32 := Scalar.select v693 v694 v688
  let c1_i32_532 : BitVec 32 := 1#32
  let v865 : BitVec 32 := Scalar.muli v695 c1_i32_532
  let v866 : BitVec 32 := Scalar.addi c0_i32_533 v865
  v866.toNat
def k0_dev12 (d0 : Dev nD) : Nat :=
  let c0_i32_543 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_420 : BitVec 32 := 3#32
  let v685 : BitVec 32 := Scalar.subi v2 c3_i32_420
  let c4_i32_421 : BitVec 32 := 4#32
  let c0_i32_422 : BitVec 32 := 0#32
  let v686 : BitVec 1 := Scalar.cmpi .eq c4_i32_421 c0_i32_422
  let c1_i32_423 : BitVec 32 := 1#32
  let v687 : BitVec 32 := Scalar.select v686 c1_i32_423 c4_i32_421
  let v688 : BitVec 32 := Scalar.remsi v685 v687
  let c0_i32_425 : BitVec 32 := 0#32
  let v690 : BitVec 1 := Scalar.cmpi .slt v688 c0_i32_425
  let c0_i32_426 : BitVec 32 := 0#32
  let v691 : BitVec 1 := Scalar.cmpi .slt v687 c0_i32_426
  let v692 : BitVec 1 := Scalar.xori v690 v691
  let c0_i32_424 : BitVec 32 := 0#32
  let v689 : BitVec 1 := Scalar.cmpi .ne v688 c0_i32_424
  let v693 : BitVec 1 := Scalar.andi v692 v689
  let v694 : BitVec 32 := Scalar.addi v688 v687
  let v695 : BitVec 32 := Scalar.select v693 v694 v688
  let c1_i32_542 : BitVec 32 := 1#32
  let v875 : BitVec 32 := Scalar.muli v695 c1_i32_542
  let v876 : BitVec 32 := Scalar.addi c0_i32_543 v875
  v876.toNat
abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S1024x1024 : Shape := ⟨2, ![1024, 1024]⟩
abbrev S16384x1024 : Shape := ⟨2, ![16384, 1024]⟩
abbrev S16384x8x128 : Shape := ⟨3, ![16384, 8, 128]⟩
abbrev S1024x8x128 : Shape := ⟨3, ![1024, 8, 128]⟩
abbrev S8x1024x16384 : Shape := ⟨3, ![8, 1024, 16384]⟩
abbrev S_ : Shape := ⟨0, ![]⟩
abbrev S8x1024 : Shape := ⟨2, ![8, 1024]⟩
abbrev S8x1024x1 : Shape := ⟨3, ![8, 1024, 1]⟩
abbrev S8x128x1024 : Shape := ⟨3, ![8, 128, 1024]⟩
abbrev S1024x8x1 : Shape := ⟨3, ![1024, 8, 1]⟩

abbrev nBuf : Space → Nat
  | .hbm => 34
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S16384x1024, .bf16⟩
  | .hbm, ⟨3, _⟩ => ⟨S16384x1024, .bf16⟩
  | .hbm, ⟨4, _⟩ => ⟨S1024x1024, .bf16⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S16384x1024, .f32⟩
  | .hbm, ⟨9, _⟩ => ⟨S16384x8x128, .f32⟩
  | .hbm, ⟨10, _⟩ => ⟨S16384x1024, .f32⟩
  | .hbm, ⟨11, _⟩ => ⟨S16384x8x128, .f32⟩
  | .hbm, ⟨12, _⟩ => ⟨S1024x1024, .f32⟩
  | .hbm, ⟨13, _⟩ => ⟨S1024x8x128, .f32⟩
  | .hbm, ⟨14, _⟩ => ⟨S8x1024x16384, .f32⟩
  | .hbm, ⟨15, _⟩ => ⟨S_, .f32⟩
  | .hbm, ⟨16, _⟩ => ⟨S8x1024x16384, .f32⟩
  | .hbm, ⟨17, _⟩ => ⟨S8x1024x16384, .f32⟩
  | .hbm, ⟨18, _⟩ => ⟨S_, .f32⟩
  | .hbm, ⟨19, _⟩ => ⟨S8x1024, .f32⟩
  | .hbm, ⟨20, _⟩ => ⟨S8x1024x1, .f32⟩
  | .hbm, ⟨21, _⟩ => ⟨S8x1024x16384, .f32⟩
  | .hbm, ⟨22, _⟩ => ⟨S8x1024x16384, .f32⟩
  | .hbm, ⟨23, _⟩ => ⟨S8x1024x16384, .f32⟩
  | .hbm, ⟨24, _⟩ => ⟨S_, .f32⟩
  | .hbm, ⟨25, _⟩ => ⟨S8x1024, .f32⟩
  | .hbm, ⟨26, _⟩ => ⟨S8x1024x1, .f32⟩
  | .hbm, ⟨27, _⟩ => ⟨S8x128x1024, .f32⟩
  | .hbm, ⟨28, _⟩ => ⟨S1024x8x128, .f32⟩
  | .hbm, ⟨29, _⟩ => ⟨S1024x8x1, .f32⟩
  | .hbm, ⟨30, _⟩ => ⟨S1024x8x128, .f32⟩
  | .hbm, ⟨31, _⟩ => ⟨S1024x8x128, .f32⟩
  | .hbm, ⟨32, _⟩ => ⟨S1024x1024, .f32⟩
  | .hbm, ⟨33, _⟩ => ⟨S1024x1024, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]
-- ==== Proof.Protocol.lean ====
/-
The communication protocol of the ring attention kernel: which cell of which device is raised by whom, for how much,
and what a raise hands over.

Every device holds one block of 256 query rows and one block of 4096 key and value rows. The query blocks travel around
the ring in three hops; a device computes, for each query block, the partial softmax over its own keys, and sends the
partial result home to the block's owner, who combines the four.

Cells are named by `CK`: `none` is the runtime's barrier semaphore, `some (k, s)` the `s`-th cell of the kernel's `k`-th
DMA semaphore array. All the tables below are stated once, at an arbitrary cell.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.MemrefSat

@[expose] public section

set_option maxRecDepth 16384

noncomputable section

namespace Cert.RingAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The ring of four devices -/

set_option backward.proofsInPublic true in
/-- The device `k` places further round the ring. -/
def rot (c : Dev nD) (k : ℕ) : Dev nD := ⟨(c.val + k) % 4, Nat.mod_lt _ (by decide)⟩

theorem rot_rot (c : Dev nD) (a b : ℕ) : rot (rot c a) b = rot c (a + b) := Fin.ext (by simp only [rot]; omega)
theorem rot_four (c : Dev nD) : rot c 4 = c := Fin.ext (by have h4 : c.val < 4 := c.isLt; simp only [rot]; omega)
theorem rot_mod (c : Dev nD) (k : ℕ) : rot c (k + 4) = rot c k := Fin.ext (by simp only [rot]; omega)
theorem rot_zero (c : Dev nD) : rot c 0 = c := Fin.ext (by have h4 : c.val < 4 := c.isLt; simp only [rot]; omega)

/-- Going `k` places round, as a permutation of the devices. -/
def turn (k : ℕ) : Dev nD ≃ Dev nD :=
  ⟨fun c => rot c k, fun c => rot c (3 * k), fun c => Fin.ext (by have h4 : c.val < 4 := c.isLt; simp only [rot]; omega),
    fun c => Fin.ext (by have h4 : c.val < 4 := c.isLt; simp only [rot]; omega)⟩

theorem dev1_eq (c : Dev nD) : (⟨k0_dev1 c, k0_dev1_lt c⟩ : Dev nD) = rot c 1 := by revert c; decide +kernel
theorem dev2_eq (c : Dev nD) : (⟨k0_dev2 c, k0_dev2_lt c⟩ : Dev nD) = rot c 2 := by revert c; decide +kernel
theorem dev3_eq (c : Dev nD) : (⟨k0_dev3 c, k0_dev3_lt c⟩ : Dev nD) = rot c 3 := by revert c; decide +kernel
theorem dev4_eq (c : Dev nD) : (⟨k0_dev4 c, k0_dev4_lt c⟩ : Dev nD) = rot c 1 := by revert c; decide +kernel
theorem dev5_eq (c : Dev nD) : (⟨k0_dev5 c, k0_dev5_lt c⟩ : Dev nD) = rot c 1 := by revert c; decide +kernel
theorem dev6_eq (c : Dev nD) : (⟨k0_dev6 c, k0_dev6_lt c⟩ : Dev nD) = rot c 3 := by revert c; decide +kernel
theorem dev7_eq (c : Dev nD) : (⟨k0_dev7 c, k0_dev7_lt c⟩ : Dev nD) = rot c 3 := by revert c; decide +kernel
theorem dev8_eq (c : Dev nD) : (⟨k0_dev8 c, k0_dev8_lt c⟩ : Dev nD) = rot c 1 := by revert c; decide +kernel
theorem dev9_eq (c : Dev nD) : (⟨k0_dev9 c, k0_dev9_lt c⟩ : Dev nD) = rot c 2 := by revert c; decide +kernel
theorem dev10_eq (c : Dev nD) : (⟨k0_dev10 c, k0_dev10_lt c⟩ : Dev nD) = rot c 2 := by revert c; decide +kernel
theorem dev11_eq (c : Dev nD) : (⟨k0_dev11 c, k0_dev11_lt c⟩ : Dev nD) = rot c 1 := by revert c; decide +kernel
theorem dev12_eq (c : Dev nD) : (⟨k0_dev12 c, k0_dev12_lt c⟩ : Dev nD) = rot c 1 := by revert c; decide +kernel

/-- The rows where block `b` starts. -/
abbrev rowOf (b : Dev nD) : Fin 2 → ℕ := ![256 * b.val, 0]

theorem off1_eq (c : Dev nD) : k0_off1 c = rowOf c := k0_off1_eq c
theorem off2_eq0 (c : Dev nD) : k0_off2 c 0#32 = rowOf (rot c 4) := by revert c; decide +kernel
theorem off2_eq1 (c : Dev nD) : k0_off2 c 1#32 = rowOf (rot c 3) := by revert c; decide +kernel
theorem off2_eq2 (c : Dev nD) : k0_off2 c 2#32 = rowOf (rot c 2) := by revert c; decide +kernel
theorem off3_eq1 (c : Dev nD) : k0_off3 c 1#32 = rowOf (rot c 3) := by revert c; decide +kernel
theorem off3_eq2 (c : Dev nD) : k0_off3 c 2#32 = rowOf (rot c 2) := by revert c; decide +kernel
theorem off3_eq3 (c : Dev nD) : k0_off3 c 3#32 = rowOf (rot c 1) := by revert c; decide +kernel

/-! ## Memrefs -/

abbrev xM : Memref sig .tc .vmem S256x1024 .bf16 := Memref.whole cc0_stg0_0
abbrev wqM : Memref sig .tc .vmem S1024x1024 .bf16 := Memref.whole cc0_stg1_0
abbrev woM : Memref sig .tc .vmem S1024x1024 .bf16 := Memref.whole cc0_stg2_0
abbrev kM : Memref sig .tc .vmem S4096x1024 .bf16 := Memref.whole cc0_stg3_0
abbrev vM : Memref sig .tc .vmem S4096x1024 .bf16 := Memref.whole cc0_stg4_0
abbrev outM : Memref sig .tc .vmem S256x1024 .f32 := Memref.whole cc0_stg5_0
abbrev qM : Memref sig .tc .vmem S1024x1024 .bf16 := Memref.whole cc0_scratch0
abbrev psM : Memref sig .tc .vmem S3x256x1024 .bf16 := Memref.whole cc0_scratch3
abbrev ssM : Memref sig .tc .vmem S3x256x128 .f32 := Memref.whole cc0_scratch4
abbrev prM : Memref sig .tc .vmem S3x256x1024 .bf16 := Memref.whole cc0_scratch5
abbrev srM : Memref sig .tc .vmem S3x256x128 .f32 := Memref.whole cc0_scratch6
abbrev moM : Memref sig .tc .vmem S256x1024 .f32 := Memref.whole cc0_scratch11
abbrev msM : Memref sig .tc .vmem S256x128 .f32 := Memref.whole cc0_scratch12

theorem row_inb (b : Dev nD) : ∀ a, rowOf b a + S256x1024.size a ≤ S1024x1024.size a := by revert b; decide
/-- Block `b` of the query buffer. -/
abbrev qR (b : Dev nD) : Rect S1024x1024 := Rect.unit (s := S1024x1024) (rowOf b) S256x1024.size (row_inb b)
abbrev qBlk (b : Dev nD) : Memref sig .tc .vmem S256x1024 .bf16 := qM.slice (qR b) (fun _ => rfl)

theorem oS_inb (s : Fin 3) : ∀ a, (![s.val, 0, 0] : Fin 3 → ℕ) a + S1x256x1024.size a ≤ S3x256x1024.size a := by revert s; decide
theorem tS_inb (s : Fin 3) : ∀ a, (![s.val, 0, 0] : Fin 3 → ℕ) a + S1x256x128.size a ≤ S3x256x128.size a := by revert s; decide
theorem o_inb (s : Fin 3) (h : Fin 8) : ∀ a, (![s.val, 0, 128 * h.val] : Fin 3 → ℕ) a + S1x256x128.size a ≤ S3x256x1024.size a := by
  revert s h; decide
theorem t_inb (s : Fin 3) (j : Fin 2) : ∀ a, (![s.val, 0, 8 * j.val] : Fin 3 → ℕ) a + S1x256x8.size a ≤ S3x256x128.size a := by
  revert s j; decide

/-- Slot `s` of a buffer of three partial outputs, and head `h` of it. -/
abbrev oSR (s : Fin 3) : Rect S3x256x1024 := Rect.unit (s := S3x256x1024) ![s.val, 0, 0] S1x256x1024.size (oS_inb s)
abbrev oR (s : Fin 3) (h : Fin 8) : Rect S3x256x1024 := Rect.unit (s := S3x256x1024) ![s.val, 0, 128 * h.val] S1x256x128.size (o_inb s h)
abbrev oSl (M : Memref sig .tc .vmem S3x256x1024 .bf16) (s : Fin 3) : Memref sig .tc .vmem S256x1024 .bf16 :=
  (M.slice (oSR s) (fun _ => rfl)).squeeze S256x1024 squeezes_S1x256x1024_S256x1024
/-- Slot `s` of a buffer of three statistics blocks; the row maxima (`j = 0`) and row sums (`j = 1`) of it. -/
abbrev tSR (s : Fin 3) : Rect S3x256x128 := Rect.unit (s := S3x256x128) ![s.val, 0, 0] S1x256x128.size (tS_inb s)
abbrev tR (s : Fin 3) (j : Fin 2) : Rect S3x256x128 := Rect.unit (s := S3x256x128) ![s.val, 0, 8 * j.val] S1x256x8.size (t_inb s j)
abbrev tSl (M : Memref sig .tc .vmem S3x256x128 .f32) (s : Fin 3) : Memref sig .tc .vmem S256x128 .f32 :=
  (M.slice (tSR s) (fun _ => rfl)).squeeze S256x128 squeezes_S1x256x128_S256x128

/-! ## Cells -/

abbrev CK : Type := Option (Fin 6 × Fin 3)
abbrev barS : Sem sig := (SemArray.scalar (sig.barrier 0 rfl) : Sems sig S_).sem

set_option backward.proofsInPublic true in
/-- The kernel's own cells: the arrays are query send, query receive, partial-output send, statistics send,
    partial-output receive, statistics receive, three cells each, in the semaphore pool after the six staging cells. -/
def osem (k : Fin 6 × Fin 3) : SemLoc sig := .dma ⟨6 + 3 * k.1.val + k.2.val, by
  have h1 := k.1.isLt; have h2 := k.2.isLt; show _ < 24; omega⟩
def csem : CK → SemLoc sig
  | none => .reg barS
  | some k => osem k
set_option backward.proofsInPublic true in
/-- The name of a semaphore, if it is one of the protocol's. -/
def dec : SemLoc sig → Option CK
  | .reg _ => some none
  | .dma q => if h : 6 ≤ q.val then some (some (⟨(q.val - 6) / 3, by have : q.val < 24 := q.isLt; omega⟩, ⟨(q.val - 6) % 3, Nat.mod_lt _ (by decide)⟩)) else none

theorem dec_csem : ∀ k : CK, dec (csem k) = some k := by decide +kernel
theorem csem_injective : Function.Injective csem := fun a b h => Option.some.inj ((dec_csem a).symm.trans ((congrArg dec h).trans (dec_csem b)))

abbrev cell (c : Dev nD) (k : CK) : GSem nD τ sig := ((c : Thread nD τ), csem k)

theorem cell_inj {c c' : Dev nD} {k k' : CK} (h : cell c k = cell c' k') : c = c' ∧ k = k' :=
  ⟨Fin.ext (congrArg (fun g : GSem nD τ sig => g.1.1.val) h), csem_injective (congrArg Prod.snd h)⟩

/-- What one transfer into or out of a cell of array `k` credits. -/
abbrev NQ : ℕ := (qBlk 0).view.dmaCredit
abbrev NO : ℕ := (oSl prM 0).view.dmaCredit
abbrev NT : ℕ := (tSl srM 0).view.dmaCredit
theorem NQ_pos : 0 < NQ := View.dmaCredit_pos _ (by decide)
theorem NO_pos : 0 < NO := View.dmaCredit_pos _ (by decide)
theorem NT_pos : 0 < NT := View.dmaCredit_pos _ (by decide)
def amt : CK → ℕ
  | none => 1
  | some (0, _) => NQ
  | some (1, _) => NQ
  | some (2, _) => NO
  | some (3, _) => NT
  | some (4, _) => NO
  | some (5, _) => NT
theorem amt_pos : ∀ k : CK, 0 < amt k
  | none => Nat.one_pos
  | some (0, _) => NQ_pos
  | some (1, _) => NQ_pos
  | some (2, _) => NO_pos
  | some (3, _) => NT_pos
  | some (4, _) => NO_pos
  | some (5, _) => NT_pos

/-! ## Contents -/

abbrev xs (c : Dev nD) : (cc0_stg0_0 : Ref sig .tc).ty.Contents (Elt F) := (win0_0.blk (0 : Fin 1)).view.read (Elt F) (m ((c : Thread nD τ).loc main_arg0))
abbrev wqs (c : Dev nD) : (cc0_stg1_0 : Ref sig .tc).ty.Contents (Elt F) := (win0_1.blk (0 : Fin 1)).view.read (Elt F) (m ((c : Thread nD τ).loc main_arg1))
abbrev wos (c : Dev nD) : (cc0_stg2_0 : Ref sig .tc).ty.Contents (Elt F) := (win0_2.blk (0 : Fin 1)).view.read (Elt F) (m ((c : Thread nD τ).loc main_arg4))
abbrev ks (c : Dev nD) : (cc0_stg3_0 : Ref sig .tc).ty.Contents (Elt F) := (win0_3.blk (0 : Fin 1)).view.read (Elt F) (m ((c : Thread nD τ).loc main_arg2))
abbrev vs (c : Dev nD) : (cc0_stg4_0 : Ref sig .tc).ty.Contents (Elt F) := (win0_4.blk (0 : Fin 1)).view.read (Elt F) (m ((c : Thread nD τ).loc main_arg3))

/-- Device `b`'s scaled query block. -/
def qv (b : Dev nD) : FVec F S256x1024 .bf16 := k0_pay3 (k0_pay2 (xs m b) (wqs m b))

theorem slices_q (h : Fin 8) : S256x1024.Slices ![0, 128 * h.val] S256x128 := by revert h; decide
theorem slices_t (h : Fin 8) : S256x8.Slices ![0, h.val] S256x1 := by revert h; decide
theorem kv_inb (h : Fin 8) : ∀ a, (![0, 128 * h.val] : Fin 2 → ℕ) a + S4096x128.size a ≤ S4096x1024.size a := by revert h; decide

/-- The rows of head `h`: of a key or value block, of a query block. -/
abbrev kvR (h : Fin 8) : Rect S4096x1024 := Rect.unit (s := S4096x1024) ![0, 128 * h.val] S4096x128.size (kv_inb h)
abbrev kl (X : (cc0_stg3_0 : Ref sig .tc).ty.Contents (Elt F)) (h : Fin 8) : Vec F S4096x128 .bf16 := kM.view.readAt (Elt F) (kvR h).toLoadRect X
abbrev vl (X : (cc0_stg4_0 : Ref sig .tc).ty.Contents (Elt F)) (h : Fin 8) : Vec F S4096x128 .bf16 := vM.view.readAt (Elt F) (kvR h).toLoadRect X

section Partial
variable (q : FVec F S256x1024 .bf16) (k : (cc0_stg3_0 : Ref sig .tc).ty.Contents (Elt F)) (v : (cc0_stg4_0 : Ref sig .tc).ty.Contents (Elt F)) (h : Fin 8)
/-- One head of the partial softmax of a query block over a key and value block: the head's queries, keys and values; -/
def qh : FVec F S256x128 .bf16 := extractStridedSlice S256x128 ![0, 128 * h.val] q (slices_q h)
def kc : FVec F S4096x128 .bf16 := shapeCast S4096x128 (kl k h) shapeCasts_S4096x128_S4096x128
def vc : FVec F S4096x128 .bf16 := shapeCast S4096x128 (vl v h) shapeCasts_S4096x128_S4096x128
/-- the scores and their row maxima; -/
def sc : FVec F S256x4096 .f32 :=
  matmul dot_S256x128_S4096x128_S256x4096_1_1_0_0_n_n none (qh q h) (kc k h) (constant S256x4096 .f32 0x00000000#32)
def mx : FVec F S256x1 .f32 :=
  shapeCast S256x1 (multiReduction .maximumf [1] S256 (sc q k h) 0xFF800000#32 reduces_S256x4096_S256 (.inl rfl) rfl) shapeCasts_S256_S256x1
def mb : FVec F S256x4096 .f32 := broadcastTo S256x4096 (mx q k h) broadcasts_S256x1_S256x4096
def sb : FVec F S256x4096 .f32 := subf (sc q k h) (mb q k h)
/-- the exponentials, their row sums, and the values weighted by them. -/
def pr : FVec F S256x4096 .f32 := exp (sb q k h)
def pt : FVec F S256x4096 .bf16 := truncf .bf16 (pr q k h) bitsLt_bf16_f32
def ls : FVec F S256x1 .f32 :=
  shapeCast S256x1 (multiReduction .add [1] S256 (pr q k h) 0x00000000#32 reduces_S256x4096_S256 (.inl rfl) rfl) shapeCasts_S256_S256x1
def ov : FVec F S256x128 .f32 :=
  matmul dot_S256x4096_S4096x128_S256x128_1_0_0_1_n_n none (pt q k h) (vc v h) (constant S256x128 .f32 0x00000000#32)
def ot : FVec F S256x128 .bf16 := truncf .bf16 (ov q k v h) bitsLt_bf16_f32
end Partial

/-- The eight heads' row maxima side by side, the row sums likewise; -/
def cat8 (g : Fin 8 → FVec F S256x1 .f32) : FVec F S256x8 .f32 :=
  concatenate S256x8 1 [⟨S256x1, g 0⟩, ⟨S256x1, g 1⟩, ⟨S256x1, g 2⟩, ⟨S256x1, g 3⟩, ⟨S256x1, g 4⟩, ⟨S256x1, g 5⟩, ⟨S256x1, g 6⟩, ⟨S256x1, g 7⟩]
    concatenates_S256x1_S256x1_S256x1_S256x1_S256x1_S256x1_S256x1_S256x1_S256x8_d1
section Slots
variable (q : FVec F S256x1024 .bf16) (k : (cc0_stg3_0 : Ref sig .tc).ty.Contents (Elt F)) (v : (cc0_stg4_0 : Ref sig .tc).ty.Contents (Elt F))
/-- what a slot holds of them: the partial outputs by head, the maxima (0) and the sums (1). -/
def oW (h : Fin 8) : Vec F S1x256x128 .bf16 := shapeCast S1x256x128 (ot q k v h) shapeCasts_S256x128_S1x256x128
def tW (j : Fin 2) : Vec F S1x256x8 .f32 := match j with
  | 0 => shapeCast S1x256x8 (cat8 (mx q k)) shapeCasts_S256x8_S1x256x8
  | 1 => shapeCast S1x256x8 (cat8 (ls q k)) shapeCasts_S256x8_S1x256x8
end Slots

/-! ## What is handed over -/

/-- Block `b` of device `c`'s query buffer at a share, holding `X`; the block at any contents. -/
abbrev qHas (c b : Dev nD) (q : PosShare TreeShare) (X : FVec F S256x1024 .bf16) : sProp 𝕄 :=
  owns (Ix := Unit) (Name := ℕ) (U := UU) (Lvl := ℕ) (c : Thread nD τ) (qBlk b) q X
def qAny (c b : Dev nD) : sProp 𝕄 := iprop(∃ f, (qBlk b).view.loc (c : Thread nD τ) ↦[(qBlk b).view.set]{fullShare} f)

abbrev oPts (c : Dev nD) (M : Memref sig .tc .vmem S3x256x1024 .bf16) (s : Fin 3) (f : Buf (Elt F) ((oSl M s).view.loc (c : Thread nD τ))) : sProp 𝕄 :=
  (oSl M s).view.loc (c : Thread nD τ) ↦[(oSl M s).view.set]{fullShare} f
abbrev tPts (c : Dev nD) (M : Memref sig .tc .vmem S3x256x128 .f32) (s : Fin 3) (f : Buf (Elt F) ((tSl M s).view.loc (c : Thread nD τ))) : sProp 𝕄 :=
  (tSl M s).view.loc (c : Thread nD τ) ↦[(tSl M s).view.set]{fullShare} f
/-- A slot at any contents; a slot whose contents read, head by head, `w`. -/
def oAny (c : Dev nD) (M : Memref sig .tc .vmem S3x256x1024 .bf16) (s : Fin 3) : sProp 𝕄 := iprop(∃ f, oPts c M s f)
def tAny (c : Dev nD) (M : Memref sig .tc .vmem S3x256x128 .f32) (s : Fin 3) : sProp 𝕄 := iprop(∃ f, tPts c M s f)
/-- A buffer whose elements `S` are held, the first `n` of a family of equal-sized boxes of it reading `w`. -/
def filled {s : Shape} {e : EltTy} (c : Dev nD) (M : Memref sig .tc .vmem s e) (S : Finset (Idx (M.view.loc (c : Thread nD τ)))) {N : ℕ}
    (off : Fin N → Fin s.rank → ℕ) (size : Fin s.rank → ℕ) (inb : ∀ i a, off i a + size a ≤ s.size a) (n : ℕ)
    (w : Fin N → Vec F ⟨s.rank, size⟩ e) : sProp 𝕄 :=
  iprop(∃ f, ⌜∀ i : Fin N, i.val < n → M.view.readAt (Elt F) (Rect.unit (off i) size (inb i)).toLoadRect f = w i⌝
    ∗ (M.view.loc (c : Thread nD τ) ↦[S]{fullShare} f))
instance filled_storable {s : Shape} {e : EltTy} (c : Dev nD) (M : Memref sig .tc .vmem s e) (S : Finset (Idx (M.view.loc (c : Thread nD τ)))) {N : ℕ}
    (off : Fin N → Fin s.rank → ℕ) (size : Fin s.rank → ℕ) (inb : ∀ i a, off i a + size a ≤ s.size a) (n : ℕ)
    (w : Fin N → Vec F ⟨s.rank, size⟩ e) : BI.Storable (upEmb : UEmb _ 𝕄) (filled c M S off size inb n w) := by
  unfold filled; infer_instance

/-- The first `n` heads of a slot of partial outputs; the first `n` of its two statistics. -/
abbrev oHasN (n : ℕ) (c : Dev nD) (M : Memref sig .tc .vmem S3x256x1024 .bf16) (s : Fin 3) (w : Fin 8 → Vec F S1x256x128 .bf16) : sProp 𝕄 :=
  filled c M (oSl M s).view.set (fun h : Fin 8 => ![s.val, 0, 128 * h.val]) S1x256x128.size (o_inb s) n w
abbrev tHasN (n : ℕ) (c : Dev nD) (M : Memref sig .tc .vmem S3x256x128 .f32) (s : Fin 3) (w : Fin 2 → Vec F S1x256x8 .f32) : sProp 𝕄 :=
  filled c M (tSl M s).view.set (fun j : Fin 2 => ![s.val, 0, 8 * j.val]) S1x256x8.size (t_inb s) n w
abbrev oHas (c : Dev nD) (M : Memref sig .tc .vmem S3x256x1024 .bf16) (s : Fin 3) (w : Fin 8 → Vec F S1x256x128 .bf16) : sProp 𝕄 := oHasN 8 c M s w
abbrev tHas (c : Dev nD) (M : Memref sig .tc .vmem S3x256x128 .f32) (s : Fin 3) (w : Fin 2 → Vec F S1x256x8 .f32) : sProp 𝕄 := tHasN 2 c M s w

instance qAny_storable (c b : Dev nD) : BI.Storable (upEmb : UEmb _ 𝕄) (qAny (F := F) c b) := by unfold qAny; infer_instance
instance oAny_storable (c : Dev nD) (M : Memref sig .tc .vmem S3x256x1024 .bf16) (s : Fin 3) : BI.Storable (upEmb : UEmb _ 𝕄) (oAny (F := F) c M s) := by
  unfold oAny; infer_instance
instance tAny_storable (c : Dev nD) (M : Memref sig .tc .vmem S3x256x128 .f32) (s : Fin 3) : BI.Storable (upEmb : UEmb _ 𝕄) (tAny (F := F) c M s) := by
  unfold tAny; infer_instance

/-- What the device `3 - j` places round from `c` hands over with its barrier signal `j` to `c`: its receive slots `j`,
    and — the next device only — the three blocks of its query buffer `c` will fill. -/
def barPay (c : Dev nD) (j : Fin 3) : sProp 𝕄 := match j with
  | 0 => iprop(oAny (rot c 3) prM 0 ∗ tAny (rot c 3) srM 0)
  | 1 => iprop(oAny (rot c 2) prM 1 ∗ tAny (rot c 2) srM 1)
  | 2 => iprop(oAny (rot c 1) prM 2 ∗ tAny (rot c 1) srM 2 ∗ qAny (rot c 1) (rot c 4) ∗ qAny (rot c 1) (rot c 3) ∗ qAny (rot c 1) (rot c 2))

/-- What the raise `j` of cell `k` of device `c` hands over. -/
def pay (c : Dev nD) (k : CK) (j : Fin 3) : sProp 𝕄 := match k with
  | none => barPay c j
  | some (0, h) => qHas c (rot c (4 - h.val)) fullShare.right (qv m (rot c (4 - h.val)))
  | some (1, h) => qHas c (rot c (3 - h.val)) fullShare (qv m (rot c (3 - h.val)))
  | some (2, s) => oAny c psM s
  | some (3, s) => tAny c ssM s
  | some (4, s) => oHas c prM s (oW (qv m c) (ks m (rot c (s.val + 1))) (vs m (rot c (s.val + 1))))
  | some (5, s) => tHas c srM s (tW (qv m c) (ks m (rot c (s.val + 1))))

instance barPay_storable (c : Dev nD) (j : Fin 3) : BI.Storable (upEmb : UEmb _ 𝕄) (barPay (F := F) c j) := by
  unfold barPay; split <;> infer_instance
instance pay_storable (c : Dev nD) (k : CK) (j : Fin 3) : BI.Storable (upEmb : UEmb _ 𝕄) (pay m c k j) := by
  unfold pay; split <;> infer_instance

/-- The duties of a cell: the barrier is raised by each of the other three devices, a DMA cell by one transfer. -/
def dutiesOf : CK → Finset (Fin 3)
  | none => Finset.univ
  | some _ => {0}

/-! ## The schedule -/

/-- One round, round 0, on every protocol cell of a TensorCore. -/
def rd : Rounds.Schedule (GSem nD τ sig) (Fin 3) 𝕄 where
  duties g r := if r = 0 ∧ g.1.2 = .tc then (match dec g.2 with | some k => dutiesOf k | none => ∅) else ∅
  unitless _ := False
  amount g _ _ := match dec g.2 with | some k => amt k | none => 1
  payload g _ d := match dec g.2 with | some k => pay m g.1.1 k d | none => iprop(emp)
  amount_pos g _ _ _ := by
    show 0 < (match dec g.2 with | some k => amt k | none => 1)
    split
    · exact amt_pos _
    · exact Nat.one_pos

instance rd_payload_storable (g : GSem nD τ sig) (r : ℕ) (d : Fin 3) : BI.Storable (upEmb : UEmb _ 𝕄) ((rd m).payload g r d) := by
  show BI.Storable upEmb (match dec g.2 with | some k => pay m g.1.1 k d | none => iprop(emp))
  split <;> infer_instance

section Sched
variable (c : Dev nD) (k : CK)
theorem duties_cell : (rd m).duties (cell c k) 0 = dutiesOf k := by
  dsimp only [rd]; rw [if_pos ⟨rfl, rfl⟩, dec_csem]
theorem duties_later (g : GSem nD τ sig) : ∀ r, 1 ≤ r → (rd m).duties g r = ∅ :=
  fun r hr => by dsimp only [rd]; rw [if_neg fun h => by omega]
theorem amount_cell (d : Fin 3) : (rd m).amount (cell c k) 0 d = amt k := by dsimp only [rd]; rw [dec_csem]
theorem payload_cell (d : Fin 3) : (rd m).payload (cell c k) 0 d = pay m c k d := by dsimp only [rd]; rw [dec_csem]
theorem expect_cell : (rd m).expect (cell c k) 0 = (dutiesOf k).card * amt k := by
  unfold Schedule.expect Schedule.amountOf
  rw [duties_cell, Finset.sum_congr rfl fun d _ => amount_cell m c k d, Finset.sum_const, smul_eq_mul]
theorem rest_cell : bigSep ((rd m).duties (cell c k) 0 \ ∅) (fun d => (rd m).payload (cell c k) 0 d) = bigSep (dutiesOf k) (pay m c k) := by
  rw [Finset.sdiff_empty, duties_cell]; exact bigSep_congr fun d _ => payload_cell m c k d
end Sched

/-! ## What each core owes at launch; the levels -/

/-- A device's raises of other devices' cells in program order: how many places round, and which cell. -/
def plan : List (ℕ × CK) :=
  [(1, none), (2, none), (3, none), (1, some (1, 0)), (1, some (1, 1)), (3, some (4, 0)), (3, some (5, 0)), (1, some (1, 2)),
    (2, some (4, 1)), (2, some (5, 1)), (1, some (4, 2)), (1, some (5, 2))]

def due (c : Dev nD) (p : ℕ × CK) : CellTallies nD τ sig Unit := tallyAt (cell (rot c p.1) p.2) () (amt p.2)
/-- What is still owed with the raises `l` to come: the first of them is the last summand. -/
def debt (c : Dev nD) (l : List (ℕ × CK)) : CellTallies nD τ sig Unit := l.foldr (fun p O => O + due c p) 0
/-- What device `c` still owes after its first `n` raises. -/
abbrev Od (c : Dev nD) (n : ℕ) : CellTallies nD τ sig Unit := debt c (plan.drop n)

def L (g : GSem nD τ sig) : Finset Unit := if g.1.2 = .tc then {()} else ∅
def lvk : CK → ℕ
  | none => 1
  | some (1, 0) => 2
  | some (1, 1) => 3
  | some (1, 2) => 4
  | some (4, _) => 5
  | some (5, _) => 5
  | _ => 0
def lv (g : GSem nD τ sig) (_ : Unit) : ℕ := match dec g.2 with | some k => lvk k | none => 0

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : CK) : lv (cell c k) () = lvk k := by unfold lv; rw [dec_csem]

/-- Everything owed lies above level `n`. -/
def Above (n : ℕ) (O : CellTallies nD τ sig Unit) : Prop := ∀ g u, 0 < O g u → u ∈ L g ∧ n < lv g u

theorem above_debt (n : ℕ) (c : Dev nD) (l : List (ℕ × CK)) (h : ∀ p ∈ l, n < lvk p.2) : Above n (debt c l) := by
  induction l with
  | nil => intro g u hg; exact absurd hg (Nat.lt_irrefl 0)
  | cons p l ih =>
    intro g u hg
    have hg' : 0 < (debt c l + due c p) g u := hg
    rw [Pi.add_apply, Finsupp.add_apply] at hg'
    by_cases h0 : 0 < debt c l g u
    · exact ih (fun p hp => h p (List.mem_cons_of_mem _ hp)) g u h0
    · unfold due at hg'
      rw [tallyAt_apply] at hg'
      by_cases he : g = cell (rot c p.1) p.2 ∧ u = ()
      · obtain ⟨rfl, rfl⟩ := he
        refine ⟨by rw [L_tc]; exact Finset.mem_singleton_self _, ?_⟩
        rw [lv_cell]; exact h p List.mem_cons_self
      · rw [if_neg he] at hg'; omega

theorem mayWait_of_above (c : Dev nD) (sm : SemLoc sig) (n : ℕ) (hn : lv ((c : Thread nD τ), sm) () ≤ n) (O : CellTallies nD τ sig Unit) (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => (hO g u hg).1) (fun p hp => by rw [Finset.mem_singleton.mp hp]; exact hn) (fun g u hg => (hO g u hg).2)

/-- A device waits for cell `k` with the raises after its first `n` still owed, all of them above the cell. -/
theorem mayWait_cell (c : Dev nD) (k : CK) (n : ℕ) (h : ∀ p ∈ plan.drop n, lvk k < lvk p.2) :
    (levAts L lv : sProp 𝕄) ⊢ MayWait (c : Thread nD τ) (csem k) () (Od c n) :=
  mayWait_of_above c (csem k) (lvk k) (lv_cell c k).le _ (above_debt _ c _ h)

end Cert.RingAttn

end
-- ==== Proof.Rules.lean ====
/-
The rules the body is run by, each stated once at an arbitrary device and cell: a signal of a neighbour's barrier, a wait
for one of the device's own cells, a transfer to a peer; loads and stores of the buffers' boxes.
-/
module

public import proofs.«01_k».proof.Proof.Protocol

@[expose] public section

set_option maxRecDepth 16384

noncomputable section

namespace Cert.RingAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- Device `c`'s core runs `p`, to end with `Q`. -/
abbrev runs {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## Cells -/

variable (K : Dev nD × CK → ℕ)

/-- Every cell's invariant, and that its round 0 is open. -/
def records : sProp 𝕄 :=
  iprop((bigSep Finset.univ fun ck : Dev nD × CK => cellInv ER (rd m) (K ck) (cell ck.1 ck.2))
    ∗ bigSep Finset.univ fun ck : Dev nD × CK => reached ER (cell ck.1 ck.2) 0)

instance records_persistent : BI.Persistent (records m K) := by unfold records; infer_instance

theorem rec_inv (c : Dev nD) (k : CK) : records m K ⊢ cellInv ER (rd m) (K (c, k)) (cell c k) := by
  unfold records; exact sep_elim_left.trans (bigSep_elim (Φ := fun ck : Dev nD × CK => cellInv ER (rd m) (K ck) (cell ck.1 ck.2)) (Finset.mem_univ (c, k)))
theorem rec_reached (c : Dev nD) (k : CK) : records m K ⊢ (reached ER (cell c k) 0 : sProp 𝕄) := by
  unfold records; exact sep_elim_right.trans (bigSep_elim (Φ := fun ck : Dev nD × CK => (reached ER (cell ck.1 ck.2) 0 : sProp 𝕄)) (Finset.mem_univ (c, k)))

/-- What device `c` owes, the waits it has recorded left open. -/
def owesE (c : Dev nD) (O : CellTallies nD τ sig Unit) : sProp 𝕄 := iprop(∃ W, owes (c : Thread nD τ) O W)
/-- The owner's position at a cell nothing has been waited for; the duty token of a raise of a cell; the cell with the
    credit to wait for it; the cell after the wait, closed at zero. -/
def at0 (c : Dev nD) (k : CK) : sProp 𝕄 := atPos ER (cell c k) 0 ∅ 0
def tok (c : Dev nD) (k : CK) (j : Fin 3) : sProp 𝕄 := dutyTok ER (cell c k) 0 j
def ready (c : Dev nD) (k : CK) : sProp 𝕄 := iprop(at0 c k ∗ cred (tallyAt (cell c k) () ((dutiesOf k).card * amt k)))
def done (c : Dev nD) (k : CK) : sProp 𝕄 := semVal (cell c k) 0

/-- The levels and the cells' invariants: what every rule reads and none uses up. -/
def env : sProp 𝕄 := iprop(records m K ∗ levAts L lv)
instance env_persistent : BI.Persistent (env m K) := by unfold env; infer_instance

theorem debt_step (c : Dev nD) (i : ℕ) (p : ℕ × CK) (hp : plan.drop i = p :: plan.drop (i + 1)) : Od c i = Od c (i + 1) + due c p := by
  unfold Od; rw [hp]; rfl

/-- The `j`-th signal: device `rot c (j + 1)`'s barrier, with the duty `j` of that cell. -/
theorem wp_signal_bar (c n : Dev nD) (j : Fin 3) (hn : n = rot c (j.val + 1)) (i : ℕ)
    (hp : plan.drop i = (j.val + 1, none) :: plan.drop (i + 1)) {sem : Sem sig} (hsem : sem = barS)
    {α : Type} {Q : α → sProp 𝕄} {k : PUnit → Prog (TpuEff nD τ sig (Elt F) Λ₀ .tc) α} :
    iprop(env m K ∗ owesE c (Od c i) ∗ tok (rot c (j.val + 1)) none j ∗ barPay (rot c (j.val + 1)) j)
      ⊢ iprop((owesE c (Od c (i + 1)) -∗ runs c (k ⟨⟩) Q) -∗ runs c (.op (.semSignal (Dev.tc n : Thread nD τ) sem 1) k) Q) := by
  subst hn; subst hsem
  have hI : records m K ⊢ cellInv ER (rd m) (K (rot c (j.val + 1), none)) ((Dev.tc (rot c (j.val + 1)) : Thread nD τ), SemLoc.reg barS) := rec_inv m K _ none
  have hR : records m K ⊢ reached ER ((Dev.tc (rot c (j.val + 1)) : Thread nD τ), SemLoc.reg barS) 0 := rec_reached m K _ none
  have hP : barPay (rot c (j.val + 1)) j ⊢ (rd m).payload ((Dev.tc (rot c (j.val + 1)) : Thread nD τ), SemLoc.reg barS) 0 j :=
    Entails.of_eq (payload_cell m (rot c (j.val + 1)) none j).symm
  have hT : tok (F := F) (rot c (j.val + 1)) none j ⊢ dutyTok ER ((Dev.tc (rot c (j.val + 1)) : Thread nD τ), SemLoc.reg barS) 0 j := BI.Entails.refl _
  unfold owesE env
  iintro ⟨⟨#HR, -⟩, ⟨%W, HO⟩, Ht, Hp⟩ Hk
  iapply (Rounds.wp_signal 𝒱₀ ER (rd m) (c : Thread nD τ) none (dst := (Dev.tc (rot c (j.val + 1)) : Thread nD τ)) (κ := K (rot c (j.val + 1), none)) (r := 0) (d := j)
      (by show j ∈ (rd m).duties (cell (rot c (j.val + 1)) none) 0; rw [duties_cell]; exact Finset.mem_univ _)
      (amount_cell m (rot c (j.val + 1)) none j) () (Od c (i + 1)) (debt_step c i _ hp)) $$ [HO Ht Hp]
  · isplitr; · iapply hI; iexact HR
    isplitl [HO]; · iexact HO
    isplitl [Ht]; · iapply hT; iexact Ht
    isplitl [Hp]; · iapply hP; iexact Hp
    iapply hR; iexact HR
  iintro HO
  iapply Hk; iexists W; iexact HO

/-- The wait at the barrier for the three other devices: their receive slots and the next device's query blocks. -/
theorem wp_wait_bar (c : Dev nD) (i : ℕ) (hl : ∀ p ∈ plan.drop i, lvk none < lvk p.2) {sem : Sem sig} (hsem : sem = barS)
    {α : Type} {Q : α → sProp 𝕄} {k : PUnit → Prog (TpuEff nD τ sig (Elt F) Λ₀ .tc) α} :
    iprop(env m K ∗ owesE c (Od c i) ∗ ready c none)
      ⊢ iprop(((owesE c (Od c i) ∗ done c none ∗ barPay c 0 ∗ barPay c 1 ∗ barPay c 2) -∗ runs c (k ⟨⟩) Q)
          -∗ runs c (.op (.semWait sem 3) k) Q) := by
  subst hsem
  have hpay : bigSep ((rd m).duties ((c : Thread nD τ), SemLoc.reg barS) 0 \ ∅) (fun d => (rd m).payload ((c : Thread nD τ), SemLoc.reg barS) 0 d)
      ⊢ iprop(barPay c 0 ∗ barPay c 1 ∗ barPay c 2) :=
    Entails.of_eq ((rest_cell m c none).trans (show bigSep (dutiesOf none) (pay m c none) = _ from (bigSep_univ_eq_bigSepL [0, 1, 2] (by decide) (by decide) (pay m c none)).trans rfl))
  unfold owesE ready at0 env
  iintro ⟨⟨#HR, #HL⟩, ⟨%W, HO⟩, Hat, Hc⟩ Hk
  ihave #HI := (rec_inv m K c none) $$ HR
  iapply (Rounds.wp_wait_rest_token 𝒱₀ ER (rd m) (c : Thread nD τ) none (κ := K (c, none)) (wpE_semWait_eq 𝒱₀ (c : Thread nD τ) none Set.univ) (Set.mem_univ _) ()
      (O := Od c i) (W := W) (R := 0) (m := 0) (T := ∅) (expect_cell m c none).symm) $$ [HO Hat Hc]
  · isplitr; · iexact HI
    isplitl [Hc]; · iexact Hc
    isplitl [HO]; · iexact HO
    isplitr; · iapply (mayWait_cell c none i hl); iexact HL
    iexact Hat
  iintro ⟨HO, Hat, -, Hpay⟩
  imod (Rounds.cell_close ER (rd m) (Set.mem_univ (K (c, none))) (fun h => h) (R := 0 + 1) (duties_later m (cell c none))) $$ [Hat] with Hz
  · isplitr; · iexact HI
    iexact Hat
  ihave Hpay2 := hpay $$ Hpay
  iapply Hk
  isplitl [HO]; · iexists _; iexact HO
  isplitl [Hz]; · unfold done; iexact Hz
  iexact Hpay2

/-- A wait for a DMA cell of the device's own. -/
theorem wp_wait_cell (c : Dev nD) (ck : Fin 6 × Fin 3) (i : ℕ) (hl : ∀ p ∈ plan.drop i, lvk (some ck) < lvk p.2) {sem : DmaSem sig} (hsem : SemLoc.dma sem = csem (some ck))
    {sp sp' : Space} {s s' : Shape} {e e' : EltTy} {src : Memref sig .tc sp' s' e'} {dst : Memref sig .tc sp s e}
    {hsrc : src.view.WordExact} {hdst : dst.view.WordExact} (hN : dst.view.dmaCredit = amt (some ck))
    {α : Type} {Q : α → sProp 𝕄} {k : PUnit → Prog (TpuEff nD τ sig (Elt F) Λ₀ .tc) α} :
    iprop(env m K ∗ owesE c (Od c i) ∗ ready c (some ck))
      ⊢ iprop(((owesE c (Od c i) ∗ done c (some ck) ∗ pay m c (some ck) 0) -∗ runs c (k ⟨⟩) Q)
          -∗ runs c (.op (.waitDma2 sem src dst hsrc hdst) k) Q) := by
  have hsem' : csem (some ck) = SemLoc.dma sem := hsem.symm
  unfold owesE ready at0 env
  iintro ⟨⟨#HR, #HL⟩, ⟨%W, HO⟩, Hat, Hc⟩ Hk
  ihave #HI := (rec_inv m K c (some ck)) $$ HR
  iapply (Rounds.wp_wait_rest_token 𝒱₀ ER (rd m) (c : Thread nD τ) none (κ := K (c, some ck)) (sm := csem (some ck)) (k' := amt (some ck)) (k := k) (w := .waitDma2 sem src dst hsrc hdst)
      (fun Q' => (wpE_waitDma2_eq 𝒱₀ (c : Thread nD τ) none Set.univ Q').trans (by rw [hsem', hN])) (Set.mem_univ _) ()
      (O := Od c i) (W := W) (R := 0) (m := 0) (T := ∅) (by rw [expect_cell]; show 0 + _ = 1 * _; omega)) $$ [HO Hat Hc]
  · isplitr; · iexact HI
    isplitl [Hc]
    · iapply (Entails.of_eq (congrArg (fun n => (cred (tallyAt (cell c (some ck)) () n) : sProp 𝕄)) (show (dutiesOf (some ck)).card * amt (some ck) = amt (some ck) from Nat.one_mul _))); iexact Hc
    isplitl [HO]; · iexact HO
    isplitr; · iapply (mayWait_cell c (some ck) i hl); iexact HL
    iexact Hat
  iintro ⟨HO, Hat, -, Hpay⟩
  imod (Rounds.cell_close ER (rd m) (Set.mem_univ (K (c, some ck))) (fun h => h) (R := 0 + 1) (duties_later m (cell c (some ck)))) $$ [Hat] with Hz
  · isplitr; · iexact HI
    iexact Hat
  ihave Hpay2 := (Entails.of_eq ((rest_cell m c (some ck)).trans bigSep_singleton)) $$ Hpay
  iapply Hk
  isplitl [HO]; · iexists _; iexact HO
  isplitl [Hz]; · unfold done; iexact Hz
  iexact Hpay2

/-- A transfer to the device `t` places round, from the device's own cell `k₁` to that device's cell `k₂`. -/
theorem wp_send_cell (c n : Dev nD) (t : ℕ) (hn : n = rot c t) (k₁ k₂ : Fin 6 × Fin 3) (i : ℕ) (hp : plan.drop i = (t, some k₂) :: plan.drop (i + 1))
    {sp sp' : Space} {s : Shape} {e : EltTy} {src : Memref sig .tc sp s e} {dst : Memref sig .tc sp' s e} {hsc : dst.view.ref.isScScratch = false}
    {sS sem : SemLoc sig} (hsS : sS = csem (some k₁)) (hsem : sem = csem (some k₂))
    {hsrc : src.view.WordExact} {hdst : dst.view.WordExact} {hty : DmaTarget.Typed sp sem (.remote (Dev.tc n : Thread nD τ) dst sS hsc)}
    {q : PosShare TreeShare} {fs : Buf (Elt F) (src.view.loc (c : Thread nD τ))} {fd : Buf (Elt F) (dst.view.loc (Dev.tc (rot c t) : Thread nD τ))}
    (hN : dst.view.dmaCredit = amt (some k₂)) (hk₁ : amt (some k₁) = amt (some k₂))
    (hpay₁ : (src.view.loc (c : Thread nD τ) ↦[src.view.set]{q} fs) ⊢ pay m c (some k₁) 0)
    (hpay₂ : (dst.view.loc (Dev.tc (rot c t) : Thread nD τ) ↦[dst.view.set]{fullShare} (dst.view.write (Elt F) fd (src.view.read (Elt F) fs) Finset.univ))
      ⊢ pay m (rot c t) (some k₂) 0)
    {α : Type} {Q : α → sProp 𝕄} {k : PUnit → Prog (TpuEff nD τ sig (Elt F) Λ₀ .tc) α} :
    iprop(env m K ∗ owesE c (Od c i) ∗ at0 c (some k₁) ∗ tok c (some k₁) 0 ∗ tok (rot c t) (some k₂) 0
        ∗ (src.view.loc (c : Thread nD τ) ↦[src.view.set]{q} fs) ∗ (dst.view.loc (Dev.tc (rot c t) : Thread nD τ) ↦[dst.view.set]{fullShare} fd))
      ⊢ iprop(((owesE c (Od c (i + 1)) ∗ ready c (some k₁)) -∗ runs c (k ⟨⟩) Q)
          -∗ runs c (.op (.enqueueDma src (.remote (Dev.tc n : Thread nD τ) dst sS hsc) sem hsrc hdst hty) k) Q) := by
  subst hn; subst hsS; subst hsem
  unfold owesE tok ready env
  iintro ⟨⟨#HR, -⟩, ⟨%W, HO⟩, Hat, Ht1, Ht2, Hs, Hd⟩ Hk
  iapply (Rounds.wp_send_pointsTo 𝒱₀ ER (rd m) (c : Thread nD τ) none (c' := (Dev.tc (rot c t) : Thread nD τ)) (src := src) (dst := dst) (sS := csem (some k₁)) (sem := csem (some k₂)) (q := q) (fs := fs) (κ₁ := K (c, some k₁)) (κ₂ := K (rot c t, some k₂))
      (r₁ := 0) (r₂ := 0) (d₁ := (0 : Fin 3)) (d₂ := (0 : Fin 3)) (fd := fd)
      (by show (0 : Fin 3) ∈ (rd m).duties (cell c (some k₁)) 0; rw [duties_cell]; exact Finset.mem_singleton_self _)
      (by show (0 : Fin 3) ∈ (rd m).duties (cell (rot c t) (some k₂)) 0; rw [duties_cell]; exact Finset.mem_singleton_self _)
      () () (amt (some k₂)) hN ((amount_cell m c (some k₁) 0).trans hk₁) (amount_cell m (rot c t) (some k₂) 0) (Od c (i + 1)) (debt_step c i _ hp) (W := W)
      (hpay₁.trans (Entails.of_eq (payload_cell m c (some k₁) 0).symm)) (hpay₂.trans (Entails.of_eq (payload_cell m (rot c t) (some k₂) 0).symm))) $$ [HO Ht1 Ht2 Hs Hd]
  · isplitr; · iapply (rec_inv m K); iexact HR
    isplitr; · iapply (rec_inv m K); iexact HR
    isplitl [Hs]; · iexact Hs
    isplitl [Hd]; · iexact Hd
    isplitl [HO]; · iexact HO
    isplitl [Ht1]; · iexact Ht1
    isplitr; · iapply (rec_reached m K); iexact HR
    isplitl [Ht2]; · iexact Ht2
    iapply (rec_reached m K); iexact HR
  iintro ⟨Hc, HO⟩
  iapply Hk
  isplitl [HO]; · iexists W; iexact HO
  isplitl [Hat]; · iexact Hat
  iapply (Entails.of_eq (congrArg (fun n => (cred (tallyAt (cell c (some k₁)) () n) : sProp 𝕄)) (show amt (some k₂) = (dutiesOf (some k₁)).card * amt (some k₁) by rw [hk₁]; exact (Nat.one_mul _).symm)))
  iexact Hc

/-! ## Boxes of a buffer -/

section Boxes
variable {s : Shape} {e : EltTy} {M : Memref sig .tc .vmem s e}

theorem rd_same (r : Rect s) (f : M.view.ty.Contents (Elt F)) (w : r.shape.Idx → Elt F e) :
    M.view.readAt (Elt F) r.toLoadRect ((M.access r).write (Elt F) f w Finset.univ) = w := by
  rw [View.readAt_rect]; exact View.read_write_univ (v := M.access r) f w

theorem rd_other (r r' : Rect s) (hd : Disjoint r.set r'.set) (f : M.view.ty.Contents (Elt F)) (w : r'.shape.Idx → Elt F e) :
    M.view.readAt (Elt F) r.toLoadRect ((M.access r').write (Elt F) f w Finset.univ) = M.view.readAt (Elt F) r.toLoadRect f := by
  funext x
  rw [View.readAt_apply, View.readAt_apply]
  refine View.read_slice_write_of_not_mem _ _ _ _ ?_
  rw [Rect.map_emb_univ]
  exact Finset.disjoint_left.mp hd (r.toLoadRect.idx_mem x)

theorem unit_disjoint {size off off' : Fin s.rank → ℕ} (inb : ∀ a, off a + size a ≤ s.size a) (inb' : ∀ a, off' a + size a ≤ s.size a)
    (a : Fin s.rank) (h : off a + size a ≤ off' a ∨ off' a + size a ≤ off a) : Disjoint (Rect.unit off size inb).set (Rect.unit off' size inb').set := by
  rw [Finset.disjoint_left]
  intro i hi hi'
  have h1 := (Rect.mem_set_unit.mp hi) a
  have h2 := (Rect.mem_set_unit.mp hi') a
  omega

variable {N : ℕ} {off : Fin N → Fin s.rank → ℕ} {size : Fin s.rank → ℕ} {inb : ∀ i a, off i a + size a ≤ s.size a} {w : Fin N → Vec F ⟨s.rank, size⟩ e}
  {c : Dev nD} {S : Finset (Idx (M.view.loc (c : Thread nD τ)))}

/-- The next box is stored. -/
theorem wp_store_box (n : ℕ) (i : Fin N) (hi : i.val = n) (a : Fin s.rank) (hdis : ∀ j : Fin N, j.val < n → off j a + size a ≤ off i a ∨ off i a + size a ≤ off j a)
    (hS : M.view.setOn (Rect.unit (off i) size (inb i)).set ⊆ S) {off' : Fin s.rank → ℕ} {inb' : ∀ a, off' a + size a ≤ s.size a} (hoff : off' = off i)
    {v : Vec F ⟨s.rank, size⟩ e} (hv : v = w i)
    {hx : (M.access (Rect.unit off' size inb')).Stores Finset.univ} {hm : (Finset.univ : Finset (Rect.unit off' size inb').shape.Idx) = Finset.univ ∨ ∀ a, (Rect.unit off' size inb').stride a = 1}
    {α : Type} {Q : α → sProp 𝕄} {k : PUnit → Prog (TpuEff nD τ sig (Elt F) Λ₀ .tc) α} :
    filled c M S off size inb n w ⊢ iprop((filled c M S off size inb (n + 1) w -∗ runs c (k ⟨⟩) Q)
      -∗ runs c (.op (.store M (Rect.unit off' size inb') v Finset.univ hx hm) k) Q) := by
  subst hoff; subst hv
  unfold filled
  iintro ⟨%f, %hf, H⟩ Hk
  iapply (wp_store 𝒱₀ (c : Thread nD τ) none Set.univ (m := M) (r := Rect.unit (off i) size inb') (Mk := Finset.univ) (S := S) (f := f)
    (by refine Finset.Subset.trans ?_ hS; show ((M.view.slice _).setOn Finset.univ) ⊆ _; rw [View.setOn_univ, View.set_slice]; exact Finset.Subset.refl _)) $$ H
  iintro H
  iapply Hk
  iexists ((M.access (Rect.unit (off i) size inb')).write (Elt F) f (w i) Finset.univ)
  isplitr
  · ipureintro
    intro j hj
    by_cases hji : j = i
    · subst hji; exact rd_same (M := M) (Rect.unit (off j) size inb') f (w j)
    · have hjn : j.val < n := by have : j.val ≠ i.val := fun h => hji (Fin.ext h); omega
      exact (rd_other _ _ (unit_disjoint _ _ a (hdis j hjn)) f _).trans (hf j hjn)
  · iexact H

/-- A load whose value is not used. -/
theorem wp_load_dead (n : ℕ) (r : LoadRect s) (hS : M.view.setOn r.set ⊆ S) {hl : M.view.LoadsAt r}
    {α : Type} {Q : α → sProp 𝕄} {k : (r.shape.Idx → Elt F e) → Prog (TpuEff nD τ sig (Elt F) Λ₀ .tc) α} :
    filled c M S off size inb n w ⊢ iprop((∀ v, filled c M S off size inb n w -∗ runs c (k v) Q) -∗ runs c (.op (.load M r hl) k) Q) := by
  unfold filled
  iintro ⟨%f, %hf, H⟩ Hk
  iapply (wp_load 𝒱₀ (c : Thread nD τ) none Set.univ (m := M) hS) $$ H
  iintro H
  iapply Hk
  iexists f
  isplitr
  · ipureintro; exact hf
  · iexact H

/-- A load of a box that has been stored. -/
theorem wp_load_box (n : ℕ) (i : Fin N) (hi : i.val < n) (hS : M.view.setOn (Rect.unit (off i) size (inb i)).set ⊆ S)
    {off' : Fin s.rank → ℕ} {inb' : ∀ a, off' a + size a ≤ s.size a} (hoff : off' = off i) {hl : M.view.LoadsAt (Rect.unit off' size inb').toLoadRect}
    {α : Type} {Q : α → sProp 𝕄} {k : (Vec F ⟨s.rank, size⟩ e) → Prog (TpuEff nD τ sig (Elt F) Λ₀ .tc) α} :
    filled c M S off size inb n w ⊢ iprop((filled c M S off size inb n w -∗ runs c (k (w i)) Q)
      -∗ runs c (.op (.load M (Rect.unit off' size inb').toLoadRect hl) k) Q) := by
  subst hoff
  unfold filled
  iintro ⟨%f, %hf, H⟩ Hk
  rw [← hf i hi]
  iapply (wp_load 𝒱₀ (c : Thread nD τ) none Set.univ (m := M) hS) $$ H
  iintro H
  iapply Hk
  iexists f
  isplitr
  · ipureintro; exact hf
  · iexact H
end Boxes

/-! ## The query buffer's blocks -/

section Query
variable {c b : Dev nD}

theorem wp_load_q {q : PosShare TreeShare} {X : FVec F S256x1024 .bf16} {off : Fin 2 → ℕ} {inb : ∀ a, off a + S256x1024.size a ≤ S1024x1024.size a}
    (hoff : off = rowOf b) {hl : qM.view.LoadsAt (Rect.unit (s := S1024x1024) off S256x1024.size inb).toLoadRect}
    {α : Type} {Q : α → sProp 𝕄} {k : Vec F S256x1024 .bf16 → Prog (TpuEff nD τ sig (Elt F) Λ₀ .tc) α} :
    qHas c b q X ⊢ iprop((qHas c b q X -∗ runs c (k X) Q)
      -∗ runs c (.op (.load qM (Rect.unit (s := S1024x1024) off S256x1024.size inb).toLoadRect hl) k) Q) := by
  subst hoff
  unfold qHas owns
  iintro ⟨%f, %hf, H⟩ Hk
  subst hf
  iapply (wp_load 𝒱₀ (c : Thread nD τ) none Set.univ (m := qM) (S := (qBlk b).view.set)
    (by rw [show (qBlk b).view.set = _ from View.set_slice qM.view (qR b)]; exact Finset.Subset.refl _)) $$ H
  iintro H
  iapply Hk
  iexists f
  isplitr
  · ipureintro; rfl
  · iexact H

theorem wp_load_q_dead {off : Fin 2 → ℕ} {inb : ∀ a, off a + S256x1024.size a ≤ S1024x1024.size a}
    (hoff : off = rowOf b) {hl : qM.view.LoadsAt (Rect.unit (s := S1024x1024) off S256x1024.size inb).toLoadRect}
    {α : Type} {Q : α → sProp 𝕄} {k : Vec F S256x1024 .bf16 → Prog (TpuEff nD τ sig (Elt F) Λ₀ .tc) α} :
    qAny c b ⊢ iprop((∀ v, qAny c b -∗ runs c (k v) Q)
      -∗ runs c (.op (.load qM (Rect.unit (s := S1024x1024) off S256x1024.size inb).toLoadRect hl) k) Q) := by
  subst hoff
  unfold qAny
  iintro ⟨%f, H⟩ Hk
  iapply (wp_load 𝒱₀ (c : Thread nD τ) none Set.univ (m := qM) (S := (qBlk b).view.set)
    (by rw [show (qBlk b).view.set = _ from View.set_slice qM.view (qR b)]; exact Finset.Subset.refl _)) $$ H
  iintro H
  iapply Hk
  iexists f
  iexact H

theorem wp_store_q {off : Fin 2 → ℕ} {inb : ∀ a, off a + S256x1024.size a ≤ S1024x1024.size a} (hoff : off = rowOf b) {v : FVec F S256x1024 .bf16}
    {hx : (qM.access (Rect.unit (s := S1024x1024) off S256x1024.size inb)).Stores Finset.univ}
    {hm : (Finset.univ : Finset (Rect.unit (s := S1024x1024) off S256x1024.size inb).shape.Idx) = Finset.univ ∨ ∀ a, (Rect.unit (s := S1024x1024) off S256x1024.size inb).stride a = 1}
    {α : Type} {Q : α → sProp 𝕄} {k : PUnit → Prog (TpuEff nD τ sig (Elt F) Λ₀ .tc) α} :
    qAny c b ⊢ iprop((qHas c b fullShare v -∗ runs c (k ⟨⟩) Q)
      -∗ runs c (.op (.store qM (Rect.unit (s := S1024x1024) off S256x1024.size inb) v Finset.univ hx hm) k) Q) := by
  subst hoff
  unfold qAny qHas owns
  iintro ⟨%f, H⟩ Hk
  iapply (wp_store 𝒱₀ (c : Thread nD τ) none Set.univ (m := qM) (r := qR b) (Mk := Finset.univ) (S := (qBlk b).view.set) (f := f)
    (Finset.Subset.refl _)) $$ H
  iintro H
  iapply Hk
  iexists (qM.access (qR b)).write (Elt F) f v Finset.univ
  isplitr
  · ipureintro; exact View.read_write_univ (v := qM.access (qR b)) f v
  · iexact H

/-- The `h`-th hop: the block `h` places behind goes on to the next device. -/
theorem wp_send_q (n : Dev nD) (hn : n = rot c 1) (h : Fin 3) (i : ℕ) (hp : plan.drop i = (1, some (1, h)) :: plan.drop (i + 1))
    {off : Fin 2 → ℕ} {inb : ∀ a, off a + S256x1024.size a ≤ S1024x1024.size a} (hoff : off = rowOf (rot c (4 - h.val)))
    {hst hst' : ∀ a, (Rect.unit (s := S1024x1024) off S256x1024.size inb).stride a = 1}
    {hsc : (qM.slice (Rect.unit (s := S1024x1024) off S256x1024.size inb) hst).view.ref.isScScratch = false}
    {sS sem : SemLoc sig} (hsS : sS = csem (some (0, h))) (hsem : sem = csem (some (1, h)))
    {hsrc : (qM.slice (Rect.unit (s := S1024x1024) off S256x1024.size inb) hst').view.WordExact} {hdst : (qM.slice (Rect.unit (s := S1024x1024) off S256x1024.size inb) hst).view.WordExact}
    {hty : DmaTarget.Typed .vmem sem (.remote (Dev.tc n : Thread nD τ) (qM.slice (Rect.unit (s := S1024x1024) off S256x1024.size inb) hst) sS hsc)}
    {α : Type} {Q : α → sProp 𝕄} {k : PUnit → Prog (TpuEff nD τ sig (Elt F) Λ₀ .tc) α} :
    iprop(env m K ∗ owesE c (Od c i) ∗ at0 c (some (0, h)) ∗ tok c (some (0, h)) 0 ∗ tok (rot c 1) (some (1, h)) 0
        ∗ qHas c (rot c (4 - h.val)) fullShare.right (qv m (rot c (4 - h.val))) ∗ qAny (rot c 1) (rot c (4 - h.val)))
      ⊢ iprop(((owesE c (Od c (i + 1)) ∗ ready c (some (0, h))) -∗ runs c (k ⟨⟩) Q)
          -∗ runs c (.op (.enqueueDma (qM.slice (Rect.unit (s := S1024x1024) off S256x1024.size inb) hst') (.remote (Dev.tc n : Thread nD τ) (qM.slice (Rect.unit (s := S1024x1024) off S256x1024.size inb) hst) sS hsc) sem hsrc hdst hty) k) Q) := by
  subst hoff
  have hrot : rot (rot c 1) (3 - h.val) = rot c (4 - h.val) := by rw [rot_rot]; congr 1; have := h.isLt; omega
  unfold qHas qAny owns
  iintro ⟨#HE, HO, Hat, Ht1, Ht2, ⟨%fs, %hfs, Hs⟩, ⟨%fd, Hd⟩⟩ Hk
  iapply (wp_send_cell m K c n 1 hn (0, h) (1, h) i hp (src := qBlk (rot c (4 - h.val))) (dst := qBlk (rot c (4 - h.val))) hsS hsem (q := fullShare.right) (fs := fs) (fd := fd)
    rfl rfl ?_ ?_) $$ [HO Hat Ht1 Ht2 Hs Hd]
  · show _ ⊢ qHas c (rot c (4 - h.val)) fullShare.right (qv m (rot c (4 - h.val)))
    rw [← hfs]; exact owns_intro _ _ _ _
  · show _ ⊢ qHas (rot c 1) (rot (rot c 1) (3 - h.val)) fullShare (qv m (rot (rot c 1) (3 - h.val)))
    rw [hrot, ← hfs]
    refine (owns_intro _ _ _ _).trans (Entails.of_eq ?_)
    rw [View.read_write_univ]
  · isplitr; · iexact HE
    isplitl [HO]; · iexact HO
    isplitl [Hat]; · iexact Hat
    isplitl [Ht1]; · iexact Ht1
    isplitl [Ht2]; · iexact Ht2
    isplitl [Hs]; · iexact Hs
    iexact Hd
  iexact Hk
end Query

/-! ## The slots of partial results -/

section Slots
variable {c : Dev nD}

/-- A box of a slot reads, after the slot has arrived from the sender's buffer, what it read there. -/
theorem slot_arrives {s : Shape} {e : EltTy} {M M' : Memref sig .tc .vmem s e} {r₀ r : Rect s} (h₀ : ∀ a, r₀.stride a = 1) (hw : LoadRect.within r₀ r.toLoadRect = true)
    {s' : Shape} (hq : r₀.shape.Squeezes s') (fs : M'.view.ty.Contents (Elt F)) (fd : M.view.ty.Contents (Elt F)) :
    M.view.readAt (Elt F) r.toLoadRect (((M.slice r₀ h₀).squeeze s' hq).view.write (Elt F) fd (((M'.slice r₀ h₀).squeeze s' hq).view.read (Elt F) fs) Finset.univ)
      = M'.view.readAt (Elt F) r.toLoadRect fs := by
  funext x
  obtain ⟨y, hy⟩ := r₀.toLoadRect.exists_idx_of_mem (LoadRect.idx_mem_of_within hw x)
  rw [View.readAt_apply, View.readAt_apply, ← hy]
  have e1 : M.view.emb (r₀.toLoadRect.idx y) = ((M.slice r₀ h₀).squeeze s' hq).view.emb ((Shape.reshapeEquiv hq.numel_eq).symm y) := by
    show _ = M.view.emb (r₀.emb ((Shape.reshapeEquiv hq.numel_eq) ((Shape.reshapeEquiv hq.numel_eq).symm y)))
    rw [Equiv.apply_symm_apply]; rfl
  have e2 : M'.view.emb (r₀.toLoadRect.idx y) = ((M'.slice r₀ h₀).squeeze s' hq).view.emb ((Shape.reshapeEquiv hq.numel_eq).symm y) := by
    show _ = M'.view.emb (r₀.emb ((Shape.reshapeEquiv hq.numel_eq) ((Shape.reshapeEquiv hq.numel_eq).symm y)))
    rw [Equiv.apply_symm_apply]; rfl
  refine (show _ = ((M.slice r₀ h₀).squeeze s' hq).view.read (Elt F) _ ((Shape.reshapeEquiv hq.numel_eq).symm y) by rw [View.read_apply, View.read_apply, e1]).trans ?_
  rw [View.read_write_univ, View.read_apply, View.read_apply, e2]

theorem o_within (s : Fin 3) (h : Fin 8) : LoadRect.within (oSR s) (oR s h).toLoadRect = true := by revert s h; decide
theorem t_within (s : Fin 3) (j : Fin 2) : LoadRect.within (tSR s) (tR s j).toLoadRect = true := by revert s j; decide

theorem o_sub (M : Memref sig .tc .vmem S3x256x1024 .bf16) (s : Fin 3) (h : Fin 8) : M.view.setOn (oR s h).set ⊆ (oSl M s).view.set := by
  rw [Memref.set_view_squeeze]; exact Memref.setOn_subset_slice_of_within M (oSR s) _ _ (o_within s h)
theorem t_sub (M : Memref sig .tc .vmem S3x256x128 .f32) (s : Fin 3) (j : Fin 2) : M.view.setOn (tR s j).set ⊆ (tSl M s).view.set := by
  rw [Memref.set_view_squeeze]; exact Memref.setOn_subset_slice_of_within M (tSR s) _ _ (t_within s j)

/-- What device `c` computes for the device `3 - s` places round: that device's query block over `c`'s keys and values. -/
abbrev oP (c : Dev nD) (s : Fin 3) : Fin 8 → Vec F S1x256x128 .bf16 := oW (qv m (rot c (3 - s.val))) (ks m c) (vs m c)
abbrev tP (c : Dev nD) (s : Fin 3) : Fin 2 → Vec F S1x256x8 .f32 := tW (qv m (rot c (3 - s.val))) (ks m c)

theorem rot_home (c : Dev nD) (s : Fin 3) : rot (rot c (3 - s.val)) (s.val + 1) = c := by
  rw [rot_rot, show 3 - s.val + (s.val + 1) = 4 by have := s.isLt; omega, rot_four]

/-- The partial outputs of slot `s` go home. -/
theorem wp_send_o (n : Dev nD) (s : Fin 3) (hn : n = rot c (3 - s.val)) (i : ℕ) (hp : plan.drop i = (3 - s.val, some (4, s)) :: plan.drop (i + 1))
    {src dst : Memref sig .tc .vmem S256x1024 .bf16} (hs : src = oSl psM s) (hd : dst = oSl prM s) {hsc : dst.view.ref.isScScratch = false}
    {sS sem : SemLoc sig} (hsS : sS = csem (some (2, s))) (hsem : sem = csem (some (4, s)))
    {hsrc : src.view.WordExact} {hdst : dst.view.WordExact} {hty : DmaTarget.Typed .vmem sem (.remote (Dev.tc n : Thread nD τ) dst sS hsc)}
    {α : Type} {Q : α → sProp 𝕄} {k : PUnit → Prog (TpuEff nD τ sig (Elt F) Λ₀ .tc) α} :
    iprop(env m K ∗ owesE c (Od c i) ∗ at0 c (some (2, s)) ∗ tok c (some (2, s)) 0 ∗ tok (rot c (3 - s.val)) (some (4, s)) 0
        ∗ oHas c psM s (oP m c s) ∗ oAny (rot c (3 - s.val)) prM s)
      ⊢ iprop(((owesE c (Od c (i + 1)) ∗ ready c (some (2, s))) -∗ runs c (k ⟨⟩) Q)
          -∗ runs c (.op (.enqueueDma src (.remote (Dev.tc n : Thread nD τ) dst sS hsc) sem hsrc hdst hty) k) Q) := by
  subst hs; subst hd
  unfold oHas oHasN filled oAny
  iintro ⟨#HE, HO, Hat, Ht1, Ht2, ⟨%fs, %hfs, Hs⟩, ⟨%fd, Hd⟩⟩ Hk
  iapply (wp_send_cell m K c n (3 - s.val) hn (2, s) (4, s) i hp (src := oSl psM s) (dst := oSl prM s) hsS hsem (q := fullShare) (fs := fs) (fd := fd)
    rfl rfl ?_ ?_) $$ [HO Hat Ht1 Ht2 Hs Hd]
  · show _ ⊢ oAny c psM s
    unfold oAny
    iintro H; iexists fs; iexact H
  · show _ ⊢ oHas (rot c (3 - s.val)) prM s (oW (qv m (rot c (3 - s.val))) (ks m (rot (rot c (3 - s.val)) (s.val + 1))) (vs m (rot (rot c (3 - s.val)) (s.val + 1))))
    rw [rot_home]
    unfold oHas oHasN filled
    iintro H
    iexists ((oSl prM s).view.write (Elt F) fd ((oSl psM s).view.read (Elt F) fs) Finset.univ)
    isplitr
    · ipureintro
      exact fun h hh => (slot_arrives (M := prM) (M' := psM) _ (o_within s h) _ fs fd).trans (hfs h hh)
    · iexact H
  · isplitr; · iexact HE
    isplitl [HO]; · iexact HO
    isplitl [Hat]; · iexact Hat
    isplitl [Ht1]; · iexact Ht1
    isplitl [Ht2]; · iexact Ht2
    isplitl [Hs]; · iexact Hs
    iexact Hd
  iexact Hk

/-- The statistics of slot `s` go home. -/
theorem wp_send_t (n : Dev nD) (s : Fin 3) (hn : n = rot c (3 - s.val)) (i : ℕ) (hp : plan.drop i = (3 - s.val, some (5, s)) :: plan.drop (i + 1))
    {src dst : Memref sig .tc .vmem S256x128 .f32} (hs : src = tSl ssM s) (hd : dst = tSl srM s) {hsc : dst.view.ref.isScScratch = false}
    {sS sem : SemLoc sig} (hsS : sS = csem (some (3, s))) (hsem : sem = csem (some (5, s)))
    {hsrc : src.view.WordExact} {hdst : dst.view.WordExact} {hty : DmaTarget.Typed .vmem sem (.remote (Dev.tc n : Thread nD τ) dst sS hsc)}
    {α : Type} {Q : α → sProp 𝕄} {k : PUnit → Prog (TpuEff nD τ sig (Elt F) Λ₀ .tc) α} :
    iprop(env m K ∗ owesE c (Od c i) ∗ at0 c (some (3, s)) ∗ tok c (some (3, s)) 0 ∗ tok (rot c (3 - s.val)) (some (5, s)) 0
        ∗ tHas c ssM s (tP m c s) ∗ tAny (rot c (3 - s.val)) srM s)
      ⊢ iprop(((owesE c (Od c (i + 1)) ∗ ready c (some (3, s))) -∗ runs c (k ⟨⟩) Q)
          -∗ runs c (.op (.enqueueDma src (.remote (Dev.tc n : Thread nD τ) dst sS hsc) sem hsrc hdst hty) k) Q) := by
  subst hs; subst hd
  unfold tHas tHasN filled tAny
  iintro ⟨#HE, HO, Hat, Ht1, Ht2, ⟨%fs, %hfs, Hs⟩, ⟨%fd, Hd⟩⟩ Hk
  iapply (wp_send_cell m K c n (3 - s.val) hn (3, s) (5, s) i hp (src := tSl ssM s) (dst := tSl srM s) hsS hsem (q := fullShare) (fs := fs) (fd := fd)
    rfl rfl ?_ ?_) $$ [HO Hat Ht1 Ht2 Hs Hd]
  · show _ ⊢ tAny c ssM s
    unfold tAny
    iintro H; iexists fs; iexact H
  · show _ ⊢ tHas (rot c (3 - s.val)) srM s (tW (qv m (rot c (3 - s.val))) (ks m (rot (rot c (3 - s.val)) (s.val + 1))))
    rw [rot_home]
    unfold tHas tHasN filled
    iintro H
    iexists ((tSl srM s).view.write (Elt F) fd ((tSl ssM s).view.read (Elt F) fs) Finset.univ)
    isplitr
    · ipureintro
      exact fun h hh => (slot_arrives (M := srM) (M' := ssM) _ (t_within s h) _ fs fd).trans (hfs h hh)
    · iexact H
  · isplitr; · iexact HE
    isplitl [HO]; · iexact HO
    isplitl [Hat]; · iexact Hat
    isplitl [Ht1]; · iexact Ht1
    isplitl [Ht2]; · iexact Ht2
    isplitl [Hs]; · iexact Hs
    iexact Hd
  iexact Hk
end Slots

end Cert.RingAttn

end
-- ==== Proof.Store.lean ====
/-
The pieces of the body, each run once at an arbitrary device.
-/
module

public import proofs.«01_k».proof.Proof.Rules

@[expose] public section

set_option maxRecDepth 16384

noncomputable section

namespace Cert.RingAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CK → ℕ)

/-- A piece of the body at the kernel's own buffers and semaphore arrays. -/
abbrev At {β : Sort _} (f : (arg0 : Memref sig .tc .vmem S256x1024 .bf16) → (harg0 : arg0.IsWhole) → (arg1 : Memref sig .tc .vmem S1024x1024 .bf16) → (harg1 : arg1.IsWhole) → (arg2 : Memref sig .tc .vmem S1024x1024 .bf16) → (harg2 : arg2.IsWhole) → (arg3 : Memref sig .tc .vmem S4096x1024 .bf16) → (harg3 : arg3.IsWhole) → (arg4 : Memref sig .tc .vmem S4096x1024 .bf16) → (harg4 : arg4.IsWhole) → (arg5 : Memref sig .tc .vmem S256x1024 .f32) → (harg5 : arg5.IsWhole) → (arg6 : Memref sig .tc .vmem S1024x1024 .bf16) → (harg6 : arg6.IsWhole) → (arg7 : DmaSems sig S3) → (arg8 : DmaSems sig S3) → (arg9 : Memref sig .tc .vmem S3x256x1024 .bf16) → (harg9 : arg9.IsWhole) → (arg10 : Memref sig .tc .vmem S3x256x128 .f32) → (harg10 : arg10.IsWhole) → (arg11 : Memref sig .tc .vmem S3x256x1024 .bf16) → (harg11 : arg11.IsWhole) → (arg12 : Memref sig .tc .vmem S3x256x128 .f32) → (harg12 : arg12.IsWhole) → (arg13 : DmaSems sig S3) → (arg14 : DmaSems sig S3) → (arg15 : DmaSems sig S3) → (arg16 : DmaSems sig S3) → (arg17 : Memref sig .tc .vmem S256x1024 .f32) → (harg17 : arg17.IsWhole) → (arg18 : Memref sig .tc .vmem S256x128 .f32) → (harg18 : arg18.IsWhole) → β) : β :=
  f xM (Memref.isWhole_whole _) wqM (Memref.isWhole_whole _) woM (Memref.isWhole_whole _) kM (Memref.isWhole_whole _) vM (Memref.isWhole_whole _) outM (Memref.isWhole_whole _) qM (Memref.isWhole_whole _) cc0_scratch1 cc0_scratch2 psM (Memref.isWhole_whole _) ssM (Memref.isWhole_whole _) prM (Memref.isWhole_whole _) srM (Memref.isWhole_whole _) cc0_scratch7 cc0_scratch8 cc0_scratch9 cc0_scratch10 moM (Memref.isWhole_whole _) msM (Memref.isWhole_whole _)

/-! ## The device's keys and values -/

/-- The staged key and value blocks. -/
def kv (c : Dev nD) (X : (cc0_stg3_0 : Ref sig .tc).ty.Contents (Elt F)) (Y : (cc0_stg4_0 : Ref sig .tc).ty.Contents (Elt F)) : sProp 𝕄 :=
  iprop((kM.view.loc (c : Thread nD τ) ↦{fullShare} X) ∗ (vM.view.loc (c : Thread nD τ) ↦{fullShare} Y))

theorem runs_ret {c : Dev nD} {α : Type} {Q : α → sProp 𝕄} {a : α} : Q a ⊢ runs c (.ret a) Q := by
  show Q a ⊢ wp _ _ _ (Prog.ret a) Q
  rw [wp_ret]
  iintro H
  imodintro
  iexact H

theorem runs_eq {c : Dev nD} {α : Type} {Q : α → sProp 𝕄} {a b : α} (h : a = b) : Q b ⊢ runs c (.ret a) Q :=
  h ▸ runs_ret

section KV
variable {c : Dev nD} {X : (cc0_stg3_0 : Ref sig .tc).ty.Contents (Elt F)} {Y : (cc0_stg4_0 : Ref sig .tc).ty.Contents (Elt F)}

theorem wp_load_k {r : LoadRect S4096x1024} {hl : kM.view.LoadsAt r} {α : Type} {Q : α → sProp 𝕄} {k : (r.shape.Idx → Elt F .bf16) → Prog (TpuEff nD τ sig (Elt F) Λ₀ .tc) α} :
    kv c X Y ⊢ iprop((kv c X Y -∗ runs c (k (kM.view.readAt (Elt F) r X)) Q) -∗ runs c (.op (.load kM r hl) k) Q) := by
  unfold kv
  iintro ⟨HK, HV⟩ Hk
  iapply (wp_load 𝒱₀ (c : Thread nD τ) none Set.univ (m := kM) (Finset.subset_univ _)) $$ HK
  iintro HK
  iapply Hk
  isplitl [HK] <;> iassumption

theorem wp_load_v {r : LoadRect S4096x1024} {hl : vM.view.LoadsAt r} {α : Type} {Q : α → sProp 𝕄} {k : (r.shape.Idx → Elt F .bf16) → Prog (TpuEff nD τ sig (Elt F) Λ₀ .tc) α} :
    kv c X Y ⊢ iprop((kv c X Y -∗ runs c (k (vM.view.readAt (Elt F) r Y)) Q) -∗ runs c (.op (.load vM r hl) k) Q) := by
  unfold kv
  iintro ⟨HK, HV⟩ Hk
  iapply (wp_load 𝒱₀ (c : Thread nD τ) none Set.univ (m := vM) (Finset.subset_univ _)) $$ HV
  iintro HV
  iapply Hk
  isplitl [HK] <;> iassumption

end KV

/-! ## Stores and loads of the partial results -/

theorem mo_inb (h : Fin 8) : ∀ a, (![0, 128 * h.val] : Fin 2 → ℕ) a + S256x128.size a ≤ S256x1024.size a := by revert h; decide
theorem ms_inb (j : Fin 2) : ∀ a, (![0, 8 * j.val] : Fin 2 → ℕ) a + S256x8.size a ≤ S256x128.size a := by revert j; decide

/-- The first `n` heads of the device's own partial outputs; the first `n` of its own statistics. -/
abbrev moHas (n : ℕ) (c : Dev nD) (w : Fin 8 → Vec F S256x128 .f32) : sProp 𝕄 :=
  filled c moM Finset.univ (fun h : Fin 8 => ![0, 128 * h.val]) S256x128.size mo_inb n w
abbrev msHas (n : ℕ) (c : Dev nD) (w : Fin 2 → Vec F S256x8 .f32) : sProp 𝕄 :=
  filled c msM Finset.univ (fun j : Fin 2 => ![0, 8 * j.val]) S256x8.size ms_inb n w

section Own
variable (q : FVec F S256x1024 .bf16) (X : (cc0_stg3_0 : Ref sig .tc).ty.Contents (Elt F)) (Y : (cc0_stg4_0 : Ref sig .tc).ty.Contents (Elt F))
/-- What they hold of a query block over a key and value block. -/
def moW (h : Fin 8) : Vec F S256x128 .f32 := shapeCast S256x128 (ov q X Y h) shapeCasts_S256x128_S256x128
def msW (j : Fin 2) : Vec F S256x8 .f32 := match j with
  | 0 => shapeCast S256x8 (cat8 (mx q X)) shapeCasts_S256x8_S256x8
  | 1 => shapeCast S256x8 (cat8 (ls q X)) shapeCasts_S256x8_S256x8
end Own

section Put
variable {s : Shape} {e : EltTy} {M : Memref sig .tc .vmem s e}
variable {N : ℕ} {off : Fin N → Fin s.rank → ℕ} {size : Fin s.rank → ℕ} {inb : ∀ i a, off i a + size a ≤ s.size a} {w : Fin N → Vec F ⟨s.rank, size⟩ e}
  {c : Dev nD} {S : Finset (Idx (M.view.loc (c : Thread nD τ)))}

/-- A box is read, to no purpose, and stored. -/
theorem wp_put (n : ℕ) (i : Fin N) (hi : i.val = n) (a : Fin s.rank) (hdis : ∀ j : Fin N, j.val < n → off j a + size a ≤ off i a ∨ off i a + size a ≤ off j a)
    (hS : M.view.setOn (Rect.unit (off i) size (inb i)).set ⊆ S) {off' : Fin s.rank → ℕ} {inb' : ∀ a, off' a + size a ≤ s.size a} (hoff : off' = off i)
    {v : Vec F ⟨s.rank, size⟩ e} (hv : v = w i) {hl : M.view.LoadsAt (Rect.unit off' size inb').toLoadRect}
    {hx : (M.access (Rect.unit off' size inb')).Stores Finset.univ} {hm : (Finset.univ : Finset (Rect.unit off' size inb').shape.Idx) = Finset.univ ∨ ∀ a, (Rect.unit off' size inb').stride a = 1}
    {α : Type} {Q : α → sProp 𝕄} {k : PUnit → Prog (TpuEff nD τ sig (Elt F) Λ₀ .tc) α} :
    filled c M S off size inb n w ⊢ iprop((filled c M S off size inb (n + 1) w -∗ runs c (k ⟨⟩) Q)
      -∗ runs c (.op (.load M (Rect.unit off' size inb').toLoadRect hl) fun _ => .op (.store M (Rect.unit off' size inb') v Finset.univ hx hm) k) Q) := by
  iintro H Hk
  iapply (wp_load_dead n (Rect.unit off' size inb').toLoadRect (by subst hoff; exact hS)) $$ H
  iintro %x H
  iapply (wp_store_box n i hi a hdis hS hoff hv) $$ H
  iexact Hk
end Put

section PutSlots
variable {c : Dev nD}

theorem wp_put_o (s : Fin 3) (h : Fin 8) {w : Fin 8 → Vec F S1x256x128 .bf16} {off' : Fin 3 → ℕ} {inb' : ∀ a, off' a + S1x256x128.size a ≤ S3x256x1024.size a}
    {n n' : ℕ} (hn : h.val = n) (hn' : n + 1 = n') {α : Type} {Q : α → sProp 𝕄} {k : PUnit → Prog (TpuEff nD τ sig (Elt F) Λ₀ .tc) α}
    (hoff : off' = ![s.val, 0, 128 * h.val]) {v : Vec F S1x256x128 .bf16} (hv : v = w h)
    {hl : psM.view.LoadsAt (Rect.unit (s := S3x256x1024) off' S1x256x128.size inb').toLoadRect}
    {hx : (psM.access (Rect.unit (s := S3x256x1024) off' S1x256x128.size inb')).Stores Finset.univ}
    {hm : (Finset.univ : Finset (Rect.unit (s := S3x256x1024) off' S1x256x128.size inb').shape.Idx) = Finset.univ ∨ ∀ a, (Rect.unit (s := S3x256x1024) off' S1x256x128.size inb').stride a = 1} :
    oHasN n c psM s w ⊢ iprop((oHasN n' c psM s w -∗ runs c (k ⟨⟩) Q)
      -∗ runs c (.op (.load psM (Rect.unit (s := S3x256x1024) off' S1x256x128.size inb').toLoadRect hl)
          fun _ => .op (.store psM (Rect.unit (s := S3x256x1024) off' S1x256x128.size inb') v Finset.univ hx hm) k) Q) := by
  subst hn; subst hn'
  exact wp_put (M := psM) (off := fun h : Fin 8 => ![s.val, 0, 128 * h.val]) (size := S1x256x128.size) (inb := o_inb s) h.val h rfl 2 (fun j hj => .inl (by show 128 * j.val + 128 ≤ 128 * h.val; omega)) (S := (oSl psM s).view.set) (o_sub psM s h) hoff hv

theorem wp_put_t (s : Fin 3) (j : Fin 2) {w : Fin 2 → Vec F S1x256x8 .f32} {off' : Fin 3 → ℕ} {inb' : ∀ a, off' a + S1x256x8.size a ≤ S3x256x128.size a}
    {n n' : ℕ} (hn : j.val = n) (hn' : n + 1 = n') {α : Type} {Q : α → sProp 𝕄} {k : PUnit → Prog (TpuEff nD τ sig (Elt F) Λ₀ .tc) α}
    (hoff : off' = ![s.val, 0, 8 * j.val]) {v : Vec F S1x256x8 .f32} (hv : v = w j)
    {hl : ssM.view.LoadsAt (Rect.unit (s := S3x256x128) off' S1x256x8.size inb').toLoadRect}
    {hx : (ssM.access (Rect.unit (s := S3x256x128) off' S1x256x8.size inb')).Stores Finset.univ}
    {hm : (Finset.univ : Finset (Rect.unit (s := S3x256x128) off' S1x256x8.size inb').shape.Idx) = Finset.univ ∨ ∀ a, (Rect.unit (s := S3x256x128) off' S1x256x8.size inb').stride a = 1} :
    tHasN n c ssM s w ⊢ iprop((tHasN n' c ssM s w -∗ runs c (k ⟨⟩) Q)
      -∗ runs c (.op (.load ssM (Rect.unit (s := S3x256x128) off' S1x256x8.size inb').toLoadRect hl)
          fun _ => .op (.store ssM (Rect.unit (s := S3x256x128) off' S1x256x8.size inb') v Finset.univ hx hm) k) Q) := by
  subst hn; subst hn'
  exact wp_put (M := ssM) (off := fun j : Fin 2 => ![s.val, 0, 8 * j.val]) (size := S1x256x8.size) (inb := t_inb s) j.val j rfl 2 (fun i hi => .inl (by show 8 * i.val + 8 ≤ 8 * j.val; omega)) (S := (tSl ssM s).view.set) (t_sub ssM s j) hoff hv

theorem wp_put_mo (h : Fin 8) {w : Fin 8 → Vec F S256x128 .f32} {off' : Fin 2 → ℕ} {inb' : ∀ a, off' a + S256x128.size a ≤ S256x1024.size a}
    {n n' : ℕ} (hn : h.val = n) (hn' : n + 1 = n') {α : Type} {Q : α → sProp 𝕄} {k : PUnit → Prog (TpuEff nD τ sig (Elt F) Λ₀ .tc) α}
    (hoff : off' = ![0, 128 * h.val]) {v : Vec F S256x128 .f32} (hv : v = w h)
    {hl : moM.view.LoadsAt (Rect.unit (s := S256x1024) off' S256x128.size inb').toLoadRect}
    {hx : (moM.access (Rect.unit (s := S256x1024) off' S256x128.size inb')).Stores Finset.univ}
    {hm : (Finset.univ : Finset (Rect.unit (s := S256x1024) off' S256x128.size inb').shape.Idx) = Finset.univ ∨ ∀ a, (Rect.unit (s := S256x1024) off' S256x128.size inb').stride a = 1} :
    moHas n c w ⊢ iprop((moHas n' c w -∗ runs c (k ⟨⟩) Q)
      -∗ runs c (.op (.load moM (Rect.unit (s := S256x1024) off' S256x128.size inb').toLoadRect hl)
          fun _ => .op (.store moM (Rect.unit (s := S256x1024) off' S256x128.size inb') v Finset.univ hx hm) k) Q) := by
  subst hn; subst hn'
  exact wp_put h.val h rfl 1 (fun j hj => .inl (by show 128 * j.val + 128 ≤ 128 * h.val; omega)) (Finset.subset_univ _) hoff hv

theorem wp_put_ms (j : Fin 2) {w : Fin 2 → Vec F S256x8 .f32} {off' : Fin 2 → ℕ} {inb' : ∀ a, off' a + S256x8.size a ≤ S256x128.size a}
    {n n' : ℕ} (hn : j.val = n) (hn' : n + 1 = n') {α : Type} {Q : α → sProp 𝕄} {k : PUnit → Prog (TpuEff nD τ sig (Elt F) Λ₀ .tc) α}
    (hoff : off' = ![0, 8 * j.val]) {v : Vec F S256x8 .f32} (hv : v = w j)
    {hl : msM.view.LoadsAt (Rect.unit (s := S256x128) off' S256x8.size inb').toLoadRect}
    {hx : (msM.access (Rect.unit (s := S256x128) off' S256x8.size inb')).Stores Finset.univ}
    {hm : (Finset.univ : Finset (Rect.unit (s := S256x128) off' S256x8.size inb').shape.Idx) = Finset.univ ∨ ∀ a, (Rect.unit (s := S256x128) off' S256x8.size inb').stride a = 1} :
    msHas n c w ⊢ iprop((msHas n' c w -∗ runs c (k ⟨⟩) Q)
      -∗ runs c (.op (.load msM (Rect.unit (s := S256x128) off' S256x8.size inb').toLoadRect hl)
          fun _ => .op (.store msM (Rect.unit (s := S256x128) off' S256x8.size inb') v Finset.univ hx hm) k) Q) := by
  subst hn; subst hn'
  exact wp_put j.val j rfl 1 (fun i hi => .inl (by show 8 * i.val + 8 ≤ 8 * j.val; omega)) (Finset.subset_univ _) hoff hv
end PutSlots

/-! ## The combination of the four devices' partial results -/

section Combine
variable (s0 : Fin 2 → Vec F S256x8 .f32) (st : Fin 3 → Fin 2 → Vec F S1x256x8 .f32) (o : Fin 8 → Vec F S256x128 .f32) (po : Fin 3 → Fin 8 → Vec F S1x256x128 .bf16)
def tl (s : Fin 3) (j : Fin 2) : FVec F S256x8 .f32 := shapeCast S256x8 (st s j) shapeCasts_S1x256x8_S256x8
/-- The maximum over the devices; each device's factor; the sum over the devices. -/
def mst : FVec F S256x8 .f32 := maximumf (maximumf (s0 0) (tl st 0 0)) (maximumf (tl st 1 0) (tl st 2 0))
def a0 : FVec F S256x8 .f32 := exp (subf (s0 0) (mst s0 st))
def al (s : Fin 3) : FVec F S256x8 .f32 := exp (subf (tl st s 0) (mst s0 st))
def l0 : FVec F S256x8 .f32 := mulf (a0 s0 st) (s0 1)
def zr : FVec F S256x8 .f32 := broadcast S256x8 (Scalar.ofBits .f32 0x00000000#32)
def lst : FVec F S256x8 .f32 :=
  addf (addf (addf (addf zr (l0 s0 st)) (mulf (al s0 st 0) (tl st 0 1))) (mulf (al s0 st 1) (tl st 1 1))) (mulf (al s0 st 2) (tl st 2 1))
/-- One head's column of a statistic, alone and along the head. -/
def col (v : FVec F S256x8 .f32) (h : Fin 8) : FVec F S256x1 .f32 := extractStridedSlice S256x1 ![0, h.val] v (slices_t h)
def bc (v : FVec F S256x8 .f32) (h : Fin 8) : FVec F S256x128 .f32 := broadcastTo S256x128 (col v h) broadcasts_S256x1_S256x128
def pe (s : Fin 3) (h : Fin 8) : FVec F S256x128 .f32 := extf .f32 (shapeCast S256x128 (po s h) shapeCasts_S1x256x128_S256x128) bitsLt_bf16_f32
/-- One head's weighted sum, device after device, and its quotient. -/
def b0 (h : Fin 8) : FVec F S256x128 .f32 := mulf (o h) (bc (a0 s0 st) h)
def b1 (h : Fin 8) : FVec F S256x128 .f32 := addf (b0 s0 st o h) (mulf (pe po 0 h) (bc (al s0 st 0) h))
def b2 (h : Fin 8) : FVec F S256x128 .f32 := addf (b1 s0 st o po h) (mulf (pe po 1 h) (bc (al s0 st 1) h))
def b3 (h : Fin 8) : FVec F S256x128 .f32 := addf (b2 s0 st o po h) (mulf (pe po 2 h) (bc (al s0 st 2) h))
def hd (h : Fin 8) : FVec F S256x128 .bf16 := truncf .bf16 (divf (b3 s0 st o po h) (bc (lst s0 st) h)) bitsLt_bf16_f32
/-- The eight heads side by side, through the output weights. -/
def cat (g : Fin 8 → FVec F S256x128 .bf16) : FVec F S256x1024 .bf16 :=
  concatenate S256x1024 1 [⟨S256x128, g 0⟩, ⟨S256x128, g 1⟩, ⟨S256x128, g 2⟩, ⟨S256x128, g 3⟩, ⟨S256x128, g 4⟩, ⟨S256x128, g 5⟩, ⟨S256x128, g 6⟩, ⟨S256x128, g 7⟩]
    concatenates_S256x128_S256x128_S256x128_S256x128_S256x128_S256x128_S256x128_S256x128_S256x1024_d1
def comb (wo : Vec F S1024x1024 .bf16) : FVec F S256x1024 .f32 :=
  matmul dot_S256x1024_S1024x1024_S256x1024_1_0_0_1_n_n none (cat (hd s0 st o po)) (shapeCast S1024x1024 wo shapeCasts_S1024x1024_S1024x1024) (constant S256x1024 .f32 0x00000000#32)
end Combine

section Gather
variable (s0 : Fin 2 → Vec F S256x8 .f32) (st : Fin 3 → Fin 2 → Vec F S1x256x8 .f32) (o : Fin 8 → Vec F S256x128 .f32) (po : Fin 3 → Fin 8 → Vec F S1x256x128 .bf16)
/-- The four devices' statistics, and partial outputs, at the device they are for. -/
def stats (c : Dev nD) : sProp 𝕄 := iprop(msHas 2 c s0 ∗ tHas c srM 0 (st 0) ∗ tHas c srM 1 (st 1) ∗ tHas c srM 2 (st 2))
def outs (c : Dev nD) : sProp 𝕄 := iprop(moHas 8 c o ∗ oHas c prM 0 (po 0) ∗ oHas c prM 1 (po 1) ∗ oHas c prM 2 (po 2))

variable {s0 st o po} {c : Dev nD}

theorem wp_get_ms (j : Fin 2) {off' : Fin 2 → ℕ} {inb' : ∀ a, off' a + S256x8.size a ≤ S256x128.size a} (hoff : off' = ![0, 8 * j.val])
    {hl : msM.view.LoadsAt (Rect.unit (s := S256x128) off' S256x8.size inb').toLoadRect} {α : Type} {Q : α → sProp 𝕄} {k : Vec F S256x8 .f32 → Prog (TpuEff nD τ sig (Elt F) Λ₀ .tc) α} :
    stats s0 st c ⊢ iprop((stats s0 st c -∗ runs c (k (s0 j)) Q)
      -∗ runs c (.op (.load msM (Rect.unit (s := S256x128) off' S256x8.size inb').toLoadRect hl) k) Q) := by
  unfold stats
  iintro ⟨H, R⟩ Hk
  iapply (wp_load_box 2 j j.isLt (Finset.subset_univ _) hoff) $$ H
  iintro H
  iapply Hk
  isplitl [H]; · iexact H
  iexact R

theorem wp_get_t (s : Fin 3) (j : Fin 2) {off' : Fin 3 → ℕ} {inb' : ∀ a, off' a + S1x256x8.size a ≤ S3x256x128.size a} (hoff : off' = ![s.val, 0, 8 * j.val])
    {hl : srM.view.LoadsAt (Rect.unit (s := S3x256x128) off' S1x256x8.size inb').toLoadRect} {α : Type} {Q : α → sProp 𝕄} {k : Vec F S1x256x8 .f32 → Prog (TpuEff nD τ sig (Elt F) Λ₀ .tc) α} :
    stats s0 st c ⊢ iprop((stats s0 st c -∗ runs c (k (st s j)) Q)
      -∗ runs c (.op (.load srM (Rect.unit (s := S3x256x128) off' S1x256x8.size inb').toLoadRect hl) k) Q) := by
  have h1 : ∀ s, tHas c srM s (st s) ⊢ iprop((tHas c srM s (st s) -∗ runs c (k (st s j)) Q)
      -∗ ⌜off' = ![s.val, 0, 8 * j.val]⌝ -∗ runs c (.op (.load srM (Rect.unit (s := S3x256x128) off' S1x256x8.size inb').toLoadRect hl) k) Q) := by
    intro s
    iintro H Hk %h
    iapply (wp_load_box (M := srM) (off := fun j : Fin 2 => ![s.val, 0, 8 * j.val]) (size := S1x256x8.size) (inb := t_inb s) (S := (tSl srM s).view.set) 2 j j.isLt (t_sub srM s j) h) $$ H
    iexact Hk
  unfold stats
  iintro ⟨H, R0, R1, R2⟩ Hk
  fin_cases s
  · iapply (h1 0) $$ R0 [H R1 R2 Hk]
    · iintro R0; iapply Hk
      isplitl [H]; · iexact H
      isplitl [R0]; · iexact R0
      isplitl [R1]; · iexact R1
      iexact R2
    · ipureintro; exact hoff
  · iapply (h1 1) $$ R1 [H R0 R2 Hk]
    · iintro R1; iapply Hk
      isplitl [H]; · iexact H
      isplitl [R0]; · iexact R0
      isplitl [R1]; · iexact R1
      iexact R2
    · ipureintro; exact hoff
  · iapply (h1 2) $$ R2 [H R0 R1 Hk]
    · iintro R2; iapply Hk
      isplitl [H]; · iexact H
      isplitl [R0]; · iexact R0
      isplitl [R1]; · iexact R1
      iexact R2
    · ipureintro; exact hoff

theorem wp_get_mo (h : Fin 8) {off' : Fin 2 → ℕ} {inb' : ∀ a, off' a + S256x128.size a ≤ S256x1024.size a} (hoff : off' = ![0, 128 * h.val])
    {hl : moM.view.LoadsAt (Rect.unit (s := S256x1024) off' S256x128.size inb').toLoadRect} {α : Type} {Q : α → sProp 𝕄} {k : Vec F S256x128 .f32 → Prog (TpuEff nD τ sig (Elt F) Λ₀ .tc) α} :
    outs o po c ⊢ iprop((outs o po c -∗ runs c (k (o h)) Q)
      -∗ runs c (.op (.load moM (Rect.unit (s := S256x1024) off' S256x128.size inb').toLoadRect hl) k) Q) := by
  unfold outs
  iintro ⟨H, R⟩ Hk
  iapply (wp_load_box 8 h h.isLt (Finset.subset_univ _) hoff) $$ H
  iintro H
  iapply Hk
  isplitl [H]; · iexact H
  iexact R

theorem wp_get_o (s : Fin 3) (h : Fin 8) {off' : Fin 3 → ℕ} {inb' : ∀ a, off' a + S1x256x128.size a ≤ S3x256x1024.size a} (hoff : off' = ![s.val, 0, 128 * h.val])
    {hl : prM.view.LoadsAt (Rect.unit (s := S3x256x1024) off' S1x256x128.size inb').toLoadRect} {α : Type} {Q : α → sProp 𝕄} {k : Vec F S1x256x128 .bf16 → Prog (TpuEff nD τ sig (Elt F) Λ₀ .tc) α} :
    outs o po c ⊢ iprop((outs o po c -∗ runs c (k (po s h)) Q)
      -∗ runs c (.op (.load prM (Rect.unit (s := S3x256x1024) off' S1x256x128.size inb').toLoadRect hl) k) Q) := by
  have h1 : ∀ s, oHas c prM s (po s) ⊢ iprop((oHas c prM s (po s) -∗ runs c (k (po s h)) Q)
      -∗ ⌜off' = ![s.val, 0, 128 * h.val]⌝ -∗ runs c (.op (.load prM (Rect.unit (s := S3x256x1024) off' S1x256x128.size inb').toLoadRect hl) k) Q) := by
    intro s
    iintro H Hk %hs
    iapply (wp_load_box (M := prM) (off := fun h : Fin 8 => ![s.val, 0, 128 * h.val]) (size := S1x256x128.size) (inb := o_inb s) (S := (oSl prM s).view.set) 8 h h.isLt (o_sub prM s h) hs) $$ H
    iexact Hk
  unfold outs
  iintro ⟨H, R0, R1, R2⟩ Hk
  fin_cases s
  · iapply (h1 0) $$ R0 [H R1 R2 Hk]
    · iintro R0; iapply Hk
      isplitl [H]; · iexact H
      isplitl [R0]; · iexact R0
      isplitl [R1]; · iexact R1
      iexact R2
    · ipureintro; exact hoff
  · iapply (h1 1) $$ R1 [H R0 R2 Hk]
    · iintro R1; iapply Hk
      isplitl [H]; · iexact H
      isplitl [R0]; · iexact R0
      isplitl [R1]; · iexact R1
      iexact R2
    · ipureintro; exact hoff
  · iapply (h1 2) $$ R2 [H R0 R1 Hk]
    · iintro R2; iapply Hk
      isplitl [H]; · iexact H
      isplitl [R0]; · iexact R0
      isplitl [R1]; · iexact R1
      iexact R2
    · ipureintro; exact hoff
end Gather

end Cert.RingAttn

end
-- ==== Proof.Parts.lean ====
/-
The pieces of the body, each run once at an arbitrary device.
-/
module

public import proofs.«01_k».proof.Proof.Store

@[expose] public section

set_option maxRecDepth 16384

noncomputable section

namespace Cert.RingAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CK → ℕ)

/-! ## Transfers, their permits bundled -/

/-- What the device `c` needs to start hop `h`, to send slot `s` of the partial outputs, of the statistics. -/
def goQ (c : Dev nD) (h : Fin 3) : sProp 𝕄 := iprop(at0 c (some (0, h)) ∗ tok c (some (0, h)) 0 ∗ tok (rot c 1) (some (1, h)) 0)
def goO (c : Dev nD) (s : Fin 3) : sProp 𝕄 := iprop(at0 c (some (2, s)) ∗ tok c (some (2, s)) 0 ∗ tok (rot c (3 - s.val)) (some (4, s)) 0)
def goT (c : Dev nD) (s : Fin 3) : sProp 𝕄 := iprop(at0 c (some (3, s)) ∗ tok c (some (3, s)) 0 ∗ tok (rot c (3 - s.val)) (some (5, s)) 0)

/-- A query block in two halves: one to read, one to send on. -/
theorem q_split (c b b' : Dev nD) (h : b' = b) : qHas c b fullShare (qv m b) ⊢ iprop(qHas c b fullShare.left (qv m b) ∗ qHas c b' fullShare.right (qv m b')) := by
  subst h; exact (owns_halves _ _ _ _).1

theorem qHas_of_eq (c b : Dev nD) (q : PosShare TreeShare) (X X' : FVec F S256x1024 .bf16) (h : X = X') : qHas c b q X ⊢ qHas c b q X' := by
  subst h; exact BI.Entails.refl _

/-- What the wait for hop `h` gives: the block `h + 1` places behind. -/
theorem pay_q (c : Dev nD) : ∀ h : Fin 3, pay m c (some (1, h)) 0 ⊢ (match h with
    | 0 => qHas c (rot c 3) fullShare (qv m (rot c 3))
    | 1 => qHas c (rot c 2) fullShare (qv m (rot c 2))
    | 2 => qHas c (rot c 1) fullShare (qv m (rot c 1)) : sProp 𝕄)
  | 0 => BI.Entails.refl _
  | 1 => BI.Entails.refl _
  | 2 => BI.Entails.refl _

theorem zz : (![0, 0] : Fin 2 → ℕ) = fun _ => 0 := by funext a; fin_cases a <;> rfl

section Pieces
variable (c : Dev nD)

theorem part1_spec (Kt : _ → sProp 𝕄) :
    iprop(env m K ∗ owesE c (Od c 0) ∗ tok (rot c ((0 : Fin 3).val + 1)) none 0 ∗ barPay (rot c ((0 : Fin 3).val + 1)) 0
        ∗ (∀ v2 v13 v30 v31 v32 z, owesE c (Od c 1) -∗ Kt ⟨c, v2, v13, SemArray.scalar (sig.barrier 0 rfl), v30, v31, v32, z⟩))
      ⊢ runs c (At (k0_part1 (F := F))) Kt := by
  rw [k0_part1_eq_skeleton]
  unfold At k0_part1_skel
  simp only [semSignalWord, semWaitWord, Prog.lift, Prog.bind_op, Prog.bind_ret, Prog.pure_eq_ret, wp_deviceId]
  iintro ⟨#HE, HO, Ht, Hp, Hk⟩
  iapply (wp_signal_bar m K c _ 0 (dev1_eq c) 0 rfl rfl) $$ [HO Ht Hp]
  · isplitr; · iexact HE
    isplitl [HO]; · iexact HO
    isplitl [Ht]; · iexact Ht
    iexact Hp
  iintro HO
  iapply runs_ret
  iapply Hk
  iexact HO

theorem part2_spec (v2 v30 v31 z : BitVec 32) (v32 : BitVec 1) (Kt : _ → sProp 𝕄) :
    iprop(env m K ∗ owesE c (Od c 1) ∗ tok (rot c ((1 : Fin 3).val + 1)) none 1 ∗ barPay (rot c ((1 : Fin 3).val + 1)) 1 ∗ tok (rot c ((2 : Fin 3).val + 1)) none 2 ∗ barPay (rot c ((2 : Fin 3).val + 1)) 2 ∗ ready c none ∗ (xM.view.loc (c : Thread nD τ) ↦{fullShare} xs m c) ∗ (wqM.view.loc (c : Thread nD τ) ↦{fullShare} wqs m c) ∗ qAny c c
        ∗ ((owesE c (Od c 3) ∗ done c none ∗ barPay c 0 ∗ barPay c 1 ∗ barPay c 2 ∗ (xM.view.loc (c : Thread nD τ) ↦{fullShare} xs m c) ∗ (wqM.view.loc (c : Thread nD τ) ↦{fullShare} wqs m c) ∗ qAny c c) -∗ Kt (k0_pay2 (xs m c) (wqs m c))))
      ⊢ runs c (At (k0_part2 (F := F)) c v2 (SemArray.scalar (sig.barrier 0 rfl)) v30 v31 v32 z) Kt := by
  rw [k0_part2_eq_skeleton]
  unfold At k0_part2_skel
  simp only [semSignalWord, semWaitWord, Prog.lift, Prog.bind_op, Prog.bind_ret, Prog.pure_eq_ret, wp_deviceId]
  iintro ⟨#HE, HO, Ht1, Hp1, Ht2, Hp2, Hr, Hx, Hw, Hq, Hk⟩
  iapply (wp_signal_bar m K c _ 1 (dev2_eq c) 1 rfl rfl) $$ [HO Ht1 Hp1]
  · isplitr; · iexact HE
    isplitl [HO]; · iexact HO
    isplitl [Ht1]; · iexact Ht1
    iexact Hp1
  iintro HO
  iapply (wp_signal_bar m K c _ 2 (dev3_eq c) 2 rfl rfl) $$ [HO Ht2 Hp2]
  · isplitr; · iexact HE
    isplitl [HO]; · iexact HO
    isplitl [Ht2]; · iexact Ht2
    iexact Hp2
  iintro HO
  iapply (wp_wait_bar m K c 3 (by decide) rfl) $$ [HO Hr]
  · isplitr; · iexact HE
    isplitl [HO]; · iexact HO
    iexact Hr
  iintro ⟨HO, Hd, HB0, HB1, HB2⟩
  iapply (wp_load 𝒱₀ (c : Thread nD τ) none Set.univ (m := xM) (Finset.subset_univ _)) $$ Hx; iintro Hx
  iapply (wp_load 𝒱₀ (c : Thread nD τ) none Set.univ (m := wqM) (Finset.subset_univ _)) $$ Hw; iintro Hw
  iapply (wp_load_q_dead (off1_eq c)) $$ Hq; iintro %_ Hq
  ispecialize Hk $$ [HO Hd HB0 HB1 HB2 Hx Hw Hq]
  · isplitl [HO]; · iexact HO
    isplitl [Hd]; · iexact Hd
    isplitl [HB0]; · iexact HB0
    isplitl [HB1]; · iexact HB1
    isplitl [HB2]; · iexact HB2
    isplitl [Hx]; · iexact Hx
    isplitl [Hw]; · iexact Hw
    iexact Hq
  iapply (runs_eq ?_) $$ Hk
  exact congrArg₂ k0_pay2 (Memref.readAt_unit_zero (Elt F) cc0_stg0_0 zz _ (xs m c)) (Memref.readAt_unit_zero (Elt F) cc0_stg1_0 zz _ (wqs m c))

variable {q : FVec F S256x1024 .bf16} {X : (cc0_stg3_0 : Ref sig .tc).ty.Contents (Elt F)} {Y : (cc0_stg4_0 : Ref sig .tc).ty.Contents (Elt F)}

theorem part3_spec (v2 v13 : BitVec 32) (Kt : _ → sProp 𝕄) :
    iprop(env m K ∗ owesE c (Od c 3) ∗ goQ c 0 ∗ qAny c c ∗ qAny (rot c 1) (rot c 4) ∗ kv c X Y
        ∗ ((owesE c (Od c 4) ∗ ready c (some (0, 0)) ∗ qHas c c fullShare.left (qv m c) ∗ kv c X Y) -∗ Kt ⟨qv m c, vc Y 0, mx (qv m c) X 0, sb (qv m c) X 0⟩))
      ⊢ runs c (At (k0_part3 (F := F)) c v2 v13 (k0_pay2 (xs m c) (wqs m c))) Kt := by
  rw [k0_part3_eq_skeleton]
  unfold At k0_part3_skel
  simp only [Prog.lift, Prog.bind_op, Prog.bind_ret, Prog.pure_eq_ret]
  iintro ⟨#HE, HO, Hg, Hq, Hd, HKV, Hk⟩
  unfold goQ; icases Hg with ⟨Hat, Ht1, Ht2⟩
  iapply (wp_store_q (off1_eq c)) $$ Hq; iintro Hq
  ihave Hq := ((qHas_of_eq c c fullShare (k0_pay3 (k0_pay2 (xs m c) (wqs m c))) (qv m c) rfl).trans (q_split m c c (rot c (4 - (0 : Fin 3).val)) (rot_four c))) $$ Hq
  icases Hq with ⟨Hl, Hr⟩
  iapply (wp_send_q m K _ (dev4_eq c) 0 3 rfl (off2_eq0 c) rfl rfl) $$ [HO Hat Ht1 Ht2 Hr Hd]
  · isplitr; · iexact HE
    isplitl [HO]; · iexact HO
    isplitl [Hat]; · iexact Hat
    isplitl [Ht1]; · iexact Ht1
    isplitl [Ht2]; · iexact Ht2
    isplitl [Hr]; · iexact Hr
    iexact Hd
  iintro ⟨HO, Hr⟩
  iapply (wp_load_q (off1_eq c)) $$ Hl; iintro Hl
  iapply wp_load_k $$ HKV; iintro HKV
  iapply wp_load_v $$ HKV; iintro HKV
  ispecialize Hk $$ [HO Hr Hl HKV]
  · isplitl [HO]; · iexact HO
    isplitl [Hr]; · iexact Hr
    isplitl [Hl]; · iexact Hl
    iexact HKV
  iapply (runs_eq ?_) $$ Hk
  rfl

theorem part4_spec (Kt : _ → sProp 𝕄) :
    iprop(kv c X Y
        ∗ (kv c X Y -∗ Kt ⟨ls q X 0, ov q X Y 0, mx q X 1, ls q X 1, ov q X Y 1, mx q X 2, ls q X 2, ov q X Y 2, qh q 3, kc X 3⟩))
      ⊢ runs c (At (k0_part4 (F := F)) q (vc Y 0) (sb q X 0)) Kt := by
  rw [k0_part4_eq_skeleton]
  unfold At k0_part4_skel
  simp only [Prog.lift, Prog.bind_op, Prog.bind_ret, Prog.pure_eq_ret]
  iintro ⟨HKV, Hk⟩
  iapply wp_load_k $$ HKV; iintro HKV
  iapply wp_load_v $$ HKV; iintro HKV
  iapply wp_load_k $$ HKV; iintro HKV
  iapply wp_load_v $$ HKV; iintro HKV
  iapply wp_load_k $$ HKV; iintro HKV
  ispecialize Hk $$ HKV
  iapply (runs_eq ?_) $$ Hk
  rfl

theorem part5_spec (Kt : _ → sProp 𝕄) :
    iprop(kv c X Y
        ∗ (kv c X Y -∗ Kt ⟨mx q X 3, ls q X 3, ov q X Y 3, mx q X 4, ls q X 4, ov q X Y 4, vc Y 5, mx q X 5, ls q X 5, pt q X 5⟩))
      ⊢ runs c (At (k0_part5 (F := F)) q (qh q 3) (kc X 3)) Kt := by
  rw [k0_part5_eq_skeleton]
  unfold At k0_part5_skel
  simp only [Prog.lift, Prog.bind_op, Prog.bind_ret, Prog.pure_eq_ret]
  iintro ⟨HKV, Hk⟩
  iapply wp_load_v $$ HKV; iintro HKV
  iapply wp_load_k $$ HKV; iintro HKV
  iapply wp_load_v $$ HKV; iintro HKV
  iapply wp_load_k $$ HKV; iintro HKV
  iapply wp_load_v $$ HKV; iintro HKV
  ispecialize Hk $$ HKV
  iapply (runs_eq ?_) $$ Hk
  rfl

theorem part6_spec (Kt : _ → sProp 𝕄) :
    iprop(kv c X Y ∗ moHas 0 c (moW q X Y)
        ∗ ((kv c X Y ∗ moHas 1 c (moW q X Y)) -∗ Kt ⟨ov q X Y 5, ov q X Y 6, ov q X Y 7, cat8 (mx q X), cat8 (ls q X)⟩))
      ⊢ runs c (At (k0_part6 (F := F)) q (mx q X 0) (ls q X 0) (ov q X Y 0) (mx q X 1) (ls q X 1) (mx q X 2) (ls q X 2) (mx q X 3) (ls q X 3) (mx q X 4) (ls q X 4) (vc Y 5) (mx q X 5) (ls q X 5) (pt q X 5)) Kt := by
  rw [k0_part6_eq_skeleton]
  unfold At k0_part6_skel
  simp only [Prog.lift, Prog.bind_op, Prog.bind_ret, Prog.pure_eq_ret]
  iintro ⟨HKV, Hm, Hk⟩
  iapply wp_load_k $$ HKV; iintro HKV
  iapply wp_load_v $$ HKV; iintro HKV
  iapply wp_load_k $$ HKV; iintro HKV
  iapply wp_load_v $$ HKV; iintro HKV
  iapply (wp_put_mo 0 (n := 0) (n' := 1) rfl rfl ?_ ?_) $$ Hm
  · rfl
  · rfl
  iintro Hm
  iapply (wp_load_dead _ _ (Finset.subset_univ _)) $$ Hm; iintro %_ Hm
  ispecialize Hk $$ [HKV Hm]
  · isplitl [HKV]; · iexact HKV
    iexact Hm
  iapply (runs_eq ?_) $$ Hk
  rfl

theorem part7_spec (v2 : BitVec 32) (Kt : _ → sProp 𝕄) :
    iprop(moHas 1 c (moW q X Y) ∗ msHas 0 c (msW q X)
        ∗ (∀ v245 v246 v247, (moHas 8 c (moW q X Y) ∗ msHas 2 c (msW q X)) -∗ Kt ⟨v245, v246, v247⟩))
      ⊢ runs c (At (k0_part7 (F := F)) v2 (ov q X Y 1) (ov q X Y 2) (ov q X Y 3) (ov q X Y 4) (ov q X Y 5) (ov q X Y 6) (ov q X Y 7) (cat8 (mx q X)) (cat8 (ls q X))) Kt := by
  rw [k0_part7_eq_skeleton]
  unfold At k0_part7_skel
  simp only [Prog.lift, Prog.bind_op, Prog.bind_ret, Prog.pure_eq_ret]
  iintro ⟨Hm, Hs, Hk⟩
  iapply (wp_store_box (M := moM) 1 1 rfl 1 (fun j hj => .inl (by show 128 * j.val + 128 ≤ 128; omega)) (Finset.subset_univ _) ?_ ?_) $$ Hm
  · rfl
  · rfl
  iintro Hm
  iapply (wp_put_mo 2 (n := 2) (n' := 3) rfl rfl ?_ ?_) $$ Hm
  · rfl
  · rfl
  iintro Hm
  iapply (wp_put_mo 3 (n := 3) (n' := 4) rfl rfl ?_ ?_) $$ Hm
  · rfl
  · rfl
  iintro Hm
  iapply (wp_put_mo 4 (n := 4) (n' := 5) rfl rfl ?_ ?_) $$ Hm
  · rfl
  · rfl
  iintro Hm
  iapply (wp_put_mo 5 (n := 5) (n' := 6) rfl rfl ?_ ?_) $$ Hm
  · rfl
  · rfl
  iintro Hm
  iapply (wp_put_mo 6 (n := 6) (n' := 7) rfl rfl ?_ ?_) $$ Hm
  · rfl
  · rfl
  iintro Hm
  iapply (wp_put_mo 7 (n := 7) (n' := 8) rfl rfl ?_ ?_) $$ Hm
  · rfl
  · rfl
  iintro Hm
  iapply (wp_put_ms 0 (n := 0) (n' := 1) rfl rfl ?_ ?_) $$ Hs
  · rfl
  · rfl
  iintro Hs
  iapply (wp_put_ms 1 (n := 1) (n' := 2) rfl rfl ?_ ?_) $$ Hs
  · rfl
  · rfl
  iintro Hs
  iapply runs_ret
  iapply Hk
  isplitl [Hm]; · iexact Hm
  iexact Hs

theorem part8_spec (v2 v13 v245 v246 : BitVec 32) (v247 : BitVec 1) (Kt : _ → sProp 𝕄) :
    iprop(env m K ∗ owesE c (Od c 4) ∗ ready c (some (1, 0)) ∗ goQ c 1 ∗ qAny (rot c 1) (rot c 3)
        ∗ (∀ v253 v281, (owesE c (Od c 5) ∗ done c (some (1, 0)) ∗ ready c (some (0, 1)) ∗ qHas c (rot c 3) fullShare.left (qv m (rot c 3))) -∗ Kt ⟨v253, v281⟩))
      ⊢ runs c (At (k0_part8 (F := F)) c v2 v13 v245 v246 v247) Kt := by
  rw [k0_part8_eq_skeleton]
  unfold At k0_part8_skel
  simp only [Prog.lift, Prog.bind_op, Prog.bind_ret, Prog.pure_eq_ret]
  iintro ⟨#HE, HO, Hr, Hg, Hd, Hk⟩
  iapply (wp_wait_cell m K c (1, 0) 4 (by decide) ?_ ?_) $$ [HO Hr]
  · rfl
  · rfl
  · isplitr; · iexact HE
    isplitl [HO]; · iexact HO
    iexact Hr
  iintro ⟨HO, Hz, Hp⟩
  ihave Hp := ((pay_q m c 0).trans (q_split m c (rot c 3) (rot c (4 - (1 : Fin 3).val)) rfl)) $$ Hp
  icases Hp with ⟨Hl, Hr⟩
  unfold goQ; icases Hg with ⟨Hat, Ht1, Ht2⟩
  iapply (wp_send_q m K _ (dev5_eq c) 1 4 rfl (off2_eq1 c) rfl rfl) $$ [HO Hat Ht1 Ht2 Hr Hd]
  · isplitr; · iexact HE
    isplitl [HO]; · iexact HO
    isplitl [Hat]; · iexact Hat
    isplitl [Ht1]; · iexact Ht1
    isplitl [Ht2]; · iexact Ht2
    isplitl [Hr]; · iexact Hr
    iexact Hd
  iintro ⟨HO, Hr⟩
  iapply runs_ret
  iapply Hk
  isplitl [HO]; · iexact HO
  isplitl [Hz]; · iexact Hz
  isplitl [Hr]; · iexact Hr
  iexact Hl

theorem part9_spec (v281 : BitVec 32) (Kt : _ → sProp 𝕄) :
    iprop(qHas c (rot c 3) fullShare.left q ∗ kv c X Y
        ∗ ((qHas c (rot c 3) fullShare.left q ∗ kv c X Y) -∗ Kt ⟨q, mx q X 0, ls q X 0, ov q X Y 0, mx q X 1, ls q X 1, ov q X Y 1, vc Y 2, sc q X 2⟩))
      ⊢ runs c (At (k0_part9 (F := F)) c v281) Kt := by
  rw [k0_part9_eq_skeleton]
  unfold At k0_part9_skel
  simp only [Prog.lift, Prog.bind_op, Prog.bind_ret, Prog.pure_eq_ret]
  iintro ⟨HQ, HKV, Hk⟩
  iapply (wp_load_q (off3_eq1 c)) $$ HQ; iintro HQ
  iapply wp_load_k $$ HKV; iintro HKV
  iapply wp_load_v $$ HKV; iintro HKV
  iapply wp_load_k $$ HKV; iintro HKV
  iapply wp_load_v $$ HKV; iintro HKV
  iapply wp_load_k $$ HKV; iintro HKV
  iapply wp_load_v $$ HKV; iintro HKV
  ispecialize Hk $$ [HQ HKV]
  · isplitl [HQ]; · iexact HQ
    iexact HKV
  iapply (runs_eq ?_) $$ Hk
  rfl

theorem part10_spec (Kt : _ → sProp 𝕄) :
    iprop(kv c X Y
        ∗ (kv c X Y -∗ Kt ⟨mx q X 2, ls q X 2, ov q X Y 2, mx q X 3, ls q X 3, ov q X Y 3, mx q X 4, ls q X 4, ov q X Y 4, qh q 5⟩))
      ⊢ runs c (At (k0_part10 (F := F)) q (vc Y 2) (sc q X 2)) Kt := by
  rw [k0_part10_eq_skeleton]
  unfold At k0_part10_skel
  simp only [Prog.lift, Prog.bind_op, Prog.bind_ret, Prog.pure_eq_ret]
  iintro ⟨HKV, Hk⟩
  iapply wp_load_k $$ HKV; iintro HKV
  iapply wp_load_v $$ HKV; iintro HKV
  iapply wp_load_k $$ HKV; iintro HKV
  iapply wp_load_v $$ HKV; iintro HKV
  ispecialize Hk $$ HKV
  iapply (runs_eq ?_) $$ Hk
  rfl

theorem part11_spec (Kt : _ → sProp 𝕄) :
    iprop(kv c X Y
        ∗ (kv c X Y -∗ Kt ⟨mx q X 5, ls q X 5, ov q X Y 5, mx q X 6, ls q X 6, ov q X Y 6, vc Y 7, mx q X 7, sb q X 7⟩))
      ⊢ runs c (At (k0_part11 (F := F)) q (qh q 5)) Kt := by
  rw [k0_part11_eq_skeleton]
  unfold At k0_part11_skel
  simp only [Prog.lift, Prog.bind_op, Prog.bind_ret, Prog.pure_eq_ret]
  iintro ⟨HKV, Hk⟩
  iapply wp_load_k $$ HKV; iintro HKV
  iapply wp_load_v $$ HKV; iintro HKV
  iapply wp_load_k $$ HKV; iintro HKV
  iapply wp_load_v $$ HKV; iintro HKV
  iapply wp_load_k $$ HKV; iintro HKV
  iapply wp_load_v $$ HKV; iintro HKV
  ispecialize Hk $$ HKV
  iapply (runs_eq ?_) $$ Hk
  rfl

theorem part12_spec (Kt : _ → sProp 𝕄) :
    iprop(oHasN 0 c psM 0 (oW q X Y)
        ∗ (oHasN 6 c psM 0 (oW q X Y) -∗ Kt ⟨ov q X Y 7, cat8 (mx q X), cat8 (ls q X), ot q X Y 6⟩))
      ⊢ runs c (At (k0_part12 (F := F)) (mx q X 0) (ls q X 0) (ov q X Y 0) (mx q X 1) (ls q X 1) (ov q X Y 1) (mx q X 2) (ls q X 2) (ov q X Y 2) (mx q X 3) (ls q X 3) (ov q X Y 3) (mx q X 4) (ls q X 4) (ov q X Y 4) (mx q X 5) (ls q X 5) (ov q X Y 5) (mx q X 6) (ls q X 6) (ov q X Y 6) (vc Y 7) (mx q X 7) (sb q X 7)) Kt := by
  rw [k0_part12_eq_skeleton]
  unfold At k0_part12_skel
  simp only [Prog.lift, Prog.bind_op, Prog.bind_ret, Prog.pure_eq_ret]
  iintro ⟨Ho, Hk⟩
  iapply (wp_put_o 0 0 (n := 0) (n' := 1) rfl rfl ?_ ?_) $$ Ho
  · rfl
  · rfl
  iintro Ho
  iapply (wp_put_o 0 1 (n := 1) (n' := 2) rfl rfl ?_ ?_) $$ Ho
  · rfl
  · rfl
  iintro Ho
  iapply (wp_put_o 0 2 (n := 2) (n' := 3) rfl rfl ?_ ?_) $$ Ho
  · rfl
  · rfl
  iintro Ho
  iapply (wp_put_o 0 3 (n := 3) (n' := 4) rfl rfl ?_ ?_) $$ Ho
  · rfl
  · rfl
  iintro Ho
  iapply (wp_put_o 0 4 (n := 4) (n' := 5) rfl rfl ?_ ?_) $$ Ho
  · rfl
  · rfl
  iintro Ho
  iapply (wp_put_o 0 5 (n := 5) (n' := 6) rfl rfl ?_ ?_) $$ Ho
  · rfl
  · rfl
  iintro Ho
  ispecialize Hk $$ Ho
  iapply (runs_eq ?_) $$ Hk
  rfl

theorem part13_spec (v253 : BitVec 32) (hq : q = qv m (rot c (3 - (0 : Fin 3).val))) (hX : X = ks m c) (hY : Y = vs m c) (Kt : _ → sProp 𝕄) :
    iprop(env m K ∗ owesE c (Od c 5) ∗ goO c 0 ∗ oHasN 6 c psM 0 (oW q X Y) ∗ tHasN 0 c ssM 0 (tW q X) ∗ oAny (rot c (3 - (0 : Fin 3).val)) prM 0
        ∗ ((owesE c (Od c 6) ∗ ready c (some (2, 0)) ∗ tHas c ssM 0 (tW q X)) -∗ Kt ⟨⟩))
      ⊢ runs c (At (k0_part13 (F := F)) c v253 (ov q X Y 7) (cat8 (mx q X)) (cat8 (ls q X)) (ot q X Y 6)) Kt := by
  rw [k0_part13_eq_skeleton]
  unfold At k0_part13_skel
  simp only [Prog.lift, Prog.bind_op, Prog.bind_ret, Prog.pure_eq_ret]
  iintro ⟨#HE, HO, Hg, Ho, Ht, Hd, Hk⟩
  subst hq; subst hX; subst hY
  iapply (wp_put_o 0 6 (n := 6) (n' := 7) rfl rfl ?_ ?_) $$ Ho
  · rfl
  · rfl
  iintro Ho
  iapply (wp_put_o 0 7 (n := 7) (n' := 8) rfl rfl ?_ ?_) $$ Ho
  · rfl
  · rfl
  iintro Ho
  iapply (wp_put_t 0 0 (n := 0) (n' := 1) rfl rfl ?_ ?_) $$ Ht
  · rfl
  · rfl
  iintro Ht
  iapply (wp_put_t 0 1 (n := 1) (n' := 2) rfl rfl ?_ ?_) $$ Ht
  · rfl
  · rfl
  iintro Ht
  unfold goO; icases Hg with ⟨Hat, Ht1, Ht2⟩
  iapply (wp_send_o m K _ 0 (dev6_eq c) 5 rfl rfl rfl rfl rfl) $$ [HO Hat Ht1 Ht2 Ho Hd]
  · isplitr; · iexact HE
    isplitl [HO]; · iexact HO
    isplitl [Hat]; · iexact Hat
    isplitl [Ht1]; · iexact Ht1
    isplitl [Ht2]; · iexact Ht2
    isplitl [Ho]; · iexact Ho
    iexact Hd
  iintro ⟨HO, Hr⟩
  ispecialize Hk $$ [HO Hr Ht]
  · isplitl [HO]; · iexact HO
    isplitl [Hr]; · iexact Hr
    iexact Ht
  iapply (runs_eq ?_) $$ Hk
  rfl

theorem part14_spec (v2 v13 : BitVec 32) (Kt : _ → sProp 𝕄) :
    iprop(env m K ∗ owesE c (Od c 6) ∗ goT c 0 ∗ tHas c ssM 0 (tP m c 0) ∗ tAny (rot c (3 - (0 : Fin 3).val)) srM 0 ∗ ready c (some (1, 1))
        ∗ (∀ v474 v491, (owesE c (Od c 7) ∗ ready c (some (3, 0)) ∗ done c (some (1, 1)) ∗ qHas c (rot c 2) fullShare (qv m (rot c 2))) -∗ Kt ⟨v474, v491⟩))
      ⊢ runs c (At (k0_part14 (F := F)) c v2 v13) Kt := by
  rw [k0_part14_eq_skeleton]
  unfold At k0_part14_skel
  simp only [Prog.lift, Prog.bind_op, Prog.bind_ret, Prog.pure_eq_ret]
  iintro ⟨#HE, HO, Hg, Ht, Hd, Hr, Hk⟩
  unfold goT; icases Hg with ⟨Hat, Ht1, Ht2⟩
  iapply (wp_send_t m K _ 0 (dev7_eq c) 6 rfl rfl rfl rfl rfl) $$ [HO Hat Ht1 Ht2 Ht Hd]
  · isplitr; · iexact HE
    isplitl [HO]; · iexact HO
    isplitl [Hat]; · iexact Hat
    isplitl [Ht1]; · iexact Ht1
    isplitl [Ht2]; · iexact Ht2
    isplitl [Ht]; · iexact Ht
    iexact Hd
  iintro ⟨HO, Hs⟩
  iapply (wp_wait_cell m K c (1, 1) 7 (by decide) ?_ ?_) $$ [HO Hr]
  · rfl
  · rfl
  · isplitr; · iexact HE
    isplitl [HO]; · iexact HO
    iexact Hr
  iintro ⟨HO, Hz, Hp⟩
  ihave Hp := (pay_q m c 1) $$ Hp
  iapply runs_ret
  iapply Hk
  isplitl [HO]; · iexact HO
  isplitl [Hs]; · iexact Hs
  isplitl [Hz]; · iexact Hz
  iexact Hp

theorem part15_spec (v13 v474 v491 : BitVec 32) (Kt : _ → sProp 𝕄) :
    iprop(env m K ∗ owesE c (Od c 7) ∗ goQ c 2 ∗ qHas c (rot c 2) fullShare (qv m (rot c 2)) ∗ qAny (rot c 1) (rot c 2) ∗ kv c X Y
        ∗ ((owesE c (Od c 8) ∗ ready c (some (0, 2)) ∗ qHas c (rot c 2) fullShare.left (qv m (rot c 2)) ∗ kv c X Y) -∗ Kt ⟨qv m (rot c 2), mx (qv m (rot c 2)) X 0, ls (qv m (rot c 2)) X 0, ov (qv m (rot c 2)) X Y 0, vc Y 1, sc (qv m (rot c 2)) X 1, mx (qv m (rot c 2)) X 1, mb (qv m (rot c 2)) X 1⟩))
      ⊢ runs c (At (k0_part15 (F := F)) c v13 v474 v491) Kt := by
  rw [k0_part15_eq_skeleton]
  unfold At k0_part15_skel
  simp only [Prog.lift, Prog.bind_op, Prog.bind_ret, Prog.pure_eq_ret]
  iintro ⟨#HE, HO, Hg, Hp, Hd, HKV, Hk⟩
  ihave Hp := (q_split m c (rot c 2) (rot c (4 - (2 : Fin 3).val)) rfl) $$ Hp
  icases Hp with ⟨Hl, Hr⟩
  unfold goQ; icases Hg with ⟨Hat, Ht1, Ht2⟩
  iapply (wp_send_q m K _ (dev8_eq c) 2 7 rfl (off2_eq2 c) rfl rfl) $$ [HO Hat Ht1 Ht2 Hr Hd]
  · isplitr; · iexact HE
    isplitl [HO]; · iexact HO
    isplitl [Hat]; · iexact Hat
    isplitl [Ht1]; · iexact Ht1
    isplitl [Ht2]; · iexact Ht2
    isplitl [Hr]; · iexact Hr
    iexact Hd
  iintro ⟨HO, Hr⟩
  iapply (wp_load_q (off3_eq2 c)) $$ Hl; iintro Hl
  iapply wp_load_k $$ HKV; iintro HKV
  iapply wp_load_v $$ HKV; iintro HKV
  iapply wp_load_k $$ HKV; iintro HKV
  iapply wp_load_v $$ HKV; iintro HKV
  ispecialize Hk $$ [HO Hr Hl HKV]
  · isplitl [HO]; · iexact HO
    isplitl [Hr]; · iexact Hr
    isplitl [Hl]; · iexact Hl
    iexact HKV
  iapply (runs_eq ?_) $$ Hk
  rfl

theorem part16_spec (Kt : _ → sProp 𝕄) :
    iprop(kv c X Y
        ∗ (kv c X Y -∗ Kt ⟨ls q X 1, ov q X Y 1, mx q X 2, ls q X 2, ov q X Y 2, mx q X 3, ls q X 3, ov q X Y 3, qh q 4, kc X 4⟩))
      ⊢ runs c (At (k0_part16 (F := F)) q (vc Y 1) (sc q X 1) (mb q X 1)) Kt := by
  rw [k0_part16_eq_skeleton]
  unfold At k0_part16_skel
  simp only [Prog.lift, Prog.bind_op, Prog.bind_ret, Prog.pure_eq_ret]
  iintro ⟨HKV, Hk⟩
  iapply wp_load_k $$ HKV; iintro HKV
  iapply wp_load_v $$ HKV; iintro HKV
  iapply wp_load_k $$ HKV; iintro HKV
  iapply wp_load_v $$ HKV; iintro HKV
  iapply wp_load_k $$ HKV; iintro HKV
  ispecialize Hk $$ HKV
  iapply (runs_eq ?_) $$ Hk
  rfl

theorem part17_spec (Kt : _ → sProp 𝕄) :
    iprop(kv c X Y
        ∗ (kv c X Y -∗ Kt ⟨mx q X 4, ls q X 4, ov q X Y 4, mx q X 5, ls q X 5, ov q X Y 5, vc Y 6, mx q X 6, pr q X 6, ls q X 6⟩))
      ⊢ runs c (At (k0_part17 (F := F)) q (qh q 4) (kc X 4)) Kt := by
  rw [k0_part17_eq_skeleton]
  unfold At k0_part17_skel
  simp only [Prog.lift, Prog.bind_op, Prog.bind_ret, Prog.pure_eq_ret]
  iintro ⟨HKV, Hk⟩
  iapply wp_load_v $$ HKV; iintro HKV
  iapply wp_load_k $$ HKV; iintro HKV
  iapply wp_load_v $$ HKV; iintro HKV
  iapply wp_load_k $$ HKV; iintro HKV
  iapply wp_load_v $$ HKV; iintro HKV
  ispecialize Hk $$ HKV
  iapply (runs_eq ?_) $$ Hk
  rfl

theorem part18_spec (Kt : _ → sProp 𝕄) :
    iprop(kv c X Y ∗ oHasN 0 c psM 1 (oW q X Y)
        ∗ ((kv c X Y ∗ oHasN 4 c psM 1 (oW q X Y)) -∗ Kt ⟨ov q X Y 6, ov q X Y 7, cat8 (mx q X), cat8 (ls q X)⟩))
      ⊢ runs c (At (k0_part18 (F := F)) q (mx q X 0) (ls q X 0) (ov q X Y 0) (mx q X 1) (ls q X 1) (ov q X Y 1) (mx q X 2) (ls q X 2) (ov q X Y 2) (mx q X 3) (ls q X 3) (ov q X Y 3) (mx q X 4) (ls q X 4) (mx q X 5) (ls q X 5) (vc Y 6) (mx q X 6) (pr q X 6) (ls q X 6)) Kt := by
  rw [k0_part18_eq_skeleton]
  unfold At k0_part18_skel
  simp only [Prog.lift, Prog.bind_op, Prog.bind_ret, Prog.pure_eq_ret]
  iintro ⟨HKV, Ho, Hk⟩
  iapply wp_load_k $$ HKV; iintro HKV
  iapply wp_load_v $$ HKV; iintro HKV
  iapply (wp_put_o 1 0 (n := 0) (n' := 1) rfl rfl ?_ ?_) $$ Ho
  · rfl
  · rfl
  iintro Ho
  iapply (wp_put_o 1 1 (n := 1) (n' := 2) rfl rfl ?_ ?_) $$ Ho
  · rfl
  · rfl
  iintro Ho
  iapply (wp_put_o 1 2 (n := 2) (n' := 3) rfl rfl ?_ ?_) $$ Ho
  · rfl
  · rfl
  iintro Ho
  iapply (wp_put_o 1 3 (n := 3) (n' := 4) rfl rfl ?_ ?_) $$ Ho
  · rfl
  · rfl
  iintro Ho
  ispecialize Hk $$ [HKV Ho]
  · isplitl [HKV]; · iexact HKV
    iexact Ho
  iapply (runs_eq ?_) $$ Hk
  rfl

theorem part19_spec (v474 : BitVec 32) (Kt : _ → sProp 𝕄) :
    iprop(oHasN 4 c psM 1 (oW q X Y) ∗ tHasN 0 c ssM 1 (tW q X)
        ∗ ((oHas c psM 1 (oW q X Y) ∗ tHas c ssM 1 (tW q X)) -∗ Kt ⟨⟩))
      ⊢ runs c (At (k0_part19 (F := F)) v474 (ov q X Y 4) (ov q X Y 5) (ov q X Y 6) (ov q X Y 7) (cat8 (mx q X)) (cat8 (ls q X))) Kt := by
  rw [k0_part19_eq_skeleton]
  unfold At k0_part19_skel
  simp only [Prog.lift, Prog.bind_op, Prog.bind_ret, Prog.pure_eq_ret]
  iintro ⟨Ho, Ht, Hk⟩
  iapply (wp_put_o 1 4 (n := 4) (n' := 5) rfl rfl ?_ ?_) $$ Ho
  · rfl
  · rfl
  iintro Ho
  iapply (wp_put_o 1 5 (n := 5) (n' := 6) rfl rfl ?_ ?_) $$ Ho
  · rfl
  · rfl
  iintro Ho
  iapply (wp_put_o 1 6 (n := 6) (n' := 7) rfl rfl ?_ ?_) $$ Ho
  · rfl
  · rfl
  iintro Ho
  iapply (wp_put_o 1 7 (n := 7) (n' := 8) rfl rfl ?_ ?_) $$ Ho
  · rfl
  · rfl
  iintro Ho
  iapply (wp_put_t 1 0 (n := 0) (n' := 1) rfl rfl ?_ ?_) $$ Ht
  · rfl
  · rfl
  iintro Ht
  iapply (wp_put_t 1 1 (n := 1) (n' := 2) rfl rfl ?_ ?_) $$ Ht
  · rfl
  · rfl
  iintro Ht
  ispecialize Hk $$ [Ho Ht]
  · isplitl [Ho]; · iexact Ho
    iexact Ht
  iapply (runs_eq ?_) $$ Hk
  rfl

theorem part20_spec (v2 v13 v474 : BitVec 32) (Kt : _ → sProp 𝕄) :
    iprop(env m K ∗ owesE c (Od c 8) ∗ goO c 1 ∗ oHas c psM 1 (oP m c 1) ∗ oAny (rot c (3 - (1 : Fin 3).val)) prM 1 ∗ goT c 1 ∗ tHas c ssM 1 (tP m c 1) ∗ tAny (rot c (3 - (1 : Fin 3).val)) srM 1 ∗ ready c (some (1, 2))
        ∗ (∀ v695 v696, (owesE c (Od c 10) ∗ ready c (some (2, 1)) ∗ ready c (some (3, 1)) ∗ done c (some (1, 2)) ∗ qHas c (rot c 1) fullShare (qv m (rot c 1))) -∗ Kt ⟨v695, v696⟩))
      ⊢ runs c (At (k0_part20 (F := F)) c v2 v13 v474) Kt := by
  rw [k0_part20_eq_skeleton]
  unfold At k0_part20_skel
  simp only [Prog.lift, Prog.bind_op, Prog.bind_ret, Prog.pure_eq_ret]
  iintro ⟨#HE, HO, Hg, Ho, Hd, Hg2, Ht, Hd2, Hr, Hk⟩
  unfold goO; icases Hg with ⟨Hat, Ht1, Ht2⟩
  iapply (wp_send_o m K _ 1 (dev9_eq c) 8 rfl rfl rfl rfl rfl) $$ [HO Hat Ht1 Ht2 Ho Hd]
  · isplitr; · iexact HE
    isplitl [HO]; · iexact HO
    isplitl [Hat]; · iexact Hat
    isplitl [Ht1]; · iexact Ht1
    isplitl [Ht2]; · iexact Ht2
    isplitl [Ho]; · iexact Ho
    iexact Hd
  iintro ⟨HO, Hs1⟩
  unfold goT; icases Hg2 with ⟨Hat, Ht1, Ht2⟩
  iapply (wp_send_t m K _ 1 (dev10_eq c) 9 rfl rfl rfl rfl rfl) $$ [HO Hat Ht1 Ht2 Ht Hd2]
  · isplitr; · iexact HE
    isplitl [HO]; · iexact HO
    isplitl [Hat]; · iexact Hat
    isplitl [Ht1]; · iexact Ht1
    isplitl [Ht2]; · iexact Ht2
    isplitl [Ht]; · iexact Ht
    iexact Hd2
  iintro ⟨HO, Hs2⟩
  iapply (wp_wait_cell m K c (1, 2) 10 (by decide) ?_ ?_) $$ [HO Hr]
  · rfl
  · rfl
  · isplitr; · iexact HE
    isplitl [HO]; · iexact HO
    iexact Hr
  iintro ⟨HO, Hz, Hp⟩
  ihave Hp := (pay_q m c 2) $$ Hp
  iapply runs_ret
  iapply Hk
  isplitl [HO]; · iexact HO
  isplitl [Hs1]; · iexact Hs1
  isplitl [Hs2]; · iexact Hs2
  isplitl [Hz]; · iexact Hz
  iexact Hp

theorem part21_spec (v695 v696 : BitVec 32) (Kt : _ → sProp 𝕄) :
    iprop(qHas c (rot c 1) fullShare q ∗ kv c X Y
        ∗ ((qHas c (rot c 1) fullShare q ∗ kv c X Y) -∗ Kt ⟨q, mx q X 0, ls q X 0, ov q X Y 0, mx q X 1, ls q X 1, ov q X Y 1, qh q 2, kc X 2, vc Y 2, constant S256x4096 .f32 0x00000000#32⟩))
      ⊢ runs c (At (k0_part21 (F := F)) c v695 v696) Kt := by
  rw [k0_part21_eq_skeleton]
  unfold At k0_part21_skel
  simp only [Prog.lift, Prog.bind_op, Prog.bind_ret, Prog.pure_eq_ret]
  iintro ⟨HQ, HKV, Hk⟩
  iapply (wp_load_q (off3_eq3 c)) $$ HQ; iintro HQ
  iapply wp_load_k $$ HKV; iintro HKV
  iapply wp_load_v $$ HKV; iintro HKV
  iapply wp_load_k $$ HKV; iintro HKV
  iapply wp_load_v $$ HKV; iintro HKV
  iapply wp_load_k $$ HKV; iintro HKV
  iapply wp_load_v $$ HKV; iintro HKV
  ispecialize Hk $$ [HQ HKV]
  · isplitl [HQ]; · iexact HQ
    iexact HKV
  iapply (runs_eq ?_) $$ Hk
  rfl

theorem part22_spec (Kt : _ → sProp 𝕄) :
    iprop(kv c X Y
        ∗ (kv c X Y -∗ Kt ⟨mx q X 2, ls q X 2, ov q X Y 2, mx q X 3, ls q X 3, ov q X Y 3, mx q X 4, ls q X 4, ov q X Y 4, qh q 5⟩))
      ⊢ runs c (At (k0_part22 (F := F)) q (qh q 2) (kc X 2) (vc Y 2) (constant S256x4096 .f32 0x00000000#32)) Kt := by
  rw [k0_part22_eq_skeleton]
  unfold At k0_part22_skel
  simp only [Prog.lift, Prog.bind_op, Prog.bind_ret, Prog.pure_eq_ret]
  iintro ⟨HKV, Hk⟩
  iapply wp_load_k $$ HKV; iintro HKV
  iapply wp_load_v $$ HKV; iintro HKV
  iapply wp_load_k $$ HKV; iintro HKV
  iapply wp_load_v $$ HKV; iintro HKV
  ispecialize Hk $$ HKV
  iapply (runs_eq ?_) $$ Hk
  rfl

theorem part23_spec (Kt : _ → sProp 𝕄) :
    iprop(kv c X Y
        ∗ (kv c X Y -∗ Kt ⟨mx q X 5, ls q X 5, ov q X Y 5, mx q X 6, ls q X 6, ov q X Y 6, vc Y 7, sc q X 7, mx q X 7, mb q X 7⟩))
      ⊢ runs c (At (k0_part23 (F := F)) q (qh q 5)) Kt := by
  rw [k0_part23_eq_skeleton]
  unfold At k0_part23_skel
  simp only [Prog.lift, Prog.bind_op, Prog.bind_ret, Prog.pure_eq_ret]
  iintro ⟨HKV, Hk⟩
  iapply wp_load_k $$ HKV; iintro HKV
  iapply wp_load_v $$ HKV; iintro HKV
  iapply wp_load_k $$ HKV; iintro HKV
  iapply wp_load_v $$ HKV; iintro HKV
  iapply wp_load_k $$ HKV; iintro HKV
  iapply wp_load_v $$ HKV; iintro HKV
  ispecialize Hk $$ HKV
  iapply (runs_eq ?_) $$ Hk
  rfl

theorem part24_spec (Kt : _ → sProp 𝕄) :
    iprop(oHasN 0 c psM 2 (oW q X Y)
        ∗ (oHasN 6 c psM 2 (oW q X Y) -∗ Kt ⟨ov q X Y 7, cat8 (mx q X), cat8 (ls q X), ot q X Y 6⟩))
      ⊢ runs c (At (k0_part24 (F := F)) (mx q X 0) (ls q X 0) (ov q X Y 0) (mx q X 1) (ls q X 1) (ov q X Y 1) (mx q X 2) (ls q X 2) (ov q X Y 2) (mx q X 3) (ls q X 3) (ov q X Y 3) (mx q X 4) (ls q X 4) (ov q X Y 4) (mx q X 5) (ls q X 5) (ov q X Y 5) (mx q X 6) (ls q X 6) (ov q X Y 6) (vc Y 7) (sc q X 7) (mx q X 7) (mb q X 7)) Kt := by
  rw [k0_part24_eq_skeleton]
  unfold At k0_part24_skel
  simp only [Prog.lift, Prog.bind_op, Prog.bind_ret, Prog.pure_eq_ret]
  iintro ⟨Ho, Hk⟩
  iapply (wp_put_o 2 0 (n := 0) (n' := 1) rfl rfl ?_ ?_) $$ Ho
  · rfl
  · rfl
  iintro Ho
  iapply (wp_put_o 2 1 (n := 1) (n' := 2) rfl rfl ?_ ?_) $$ Ho
  · rfl
  · rfl
  iintro Ho
  iapply (wp_put_o 2 2 (n := 2) (n' := 3) rfl rfl ?_ ?_) $$ Ho
  · rfl
  · rfl
  iintro Ho
  iapply (wp_put_o 2 3 (n := 3) (n' := 4) rfl rfl ?_ ?_) $$ Ho
  · rfl
  · rfl
  iintro Ho
  iapply (wp_put_o 2 4 (n := 4) (n' := 5) rfl rfl ?_ ?_) $$ Ho
  · rfl
  · rfl
  iintro Ho
  iapply (wp_put_o 2 5 (n := 5) (n' := 6) rfl rfl ?_ ?_) $$ Ho
  · rfl
  · rfl
  iintro Ho
  ispecialize Hk $$ Ho
  iapply (runs_eq ?_) $$ Hk
  rfl

theorem part25_spec (v695 : BitVec 32) (hq : q = qv m (rot c (3 - (2 : Fin 3).val))) (hX : X = ks m c) (hY : Y = vs m c) (Kt : _ → sProp 𝕄) :
    iprop(env m K ∗ owesE c (Od c 10) ∗ goO c 2 ∗ oHasN 6 c psM 2 (oW q X Y) ∗ tHasN 0 c ssM 2 (tW q X) ∗ oAny (rot c (3 - (2 : Fin 3).val)) prM 2
        ∗ ((owesE c (Od c 11) ∗ ready c (some (2, 2)) ∗ tHas c ssM 2 (tW q X)) -∗ Kt ⟨⟩))
      ⊢ runs c (At (k0_part25 (F := F)) c v695 (ov q X Y 7) (cat8 (mx q X)) (cat8 (ls q X)) (ot q X Y 6)) Kt := by
  rw [k0_part25_eq_skeleton]
  unfold At k0_part25_skel
  simp only [Prog.lift, Prog.bind_op, Prog.bind_ret, Prog.pure_eq_ret]
  iintro ⟨#HE, HO, Hg, Ho, Ht, Hd, Hk⟩
  subst hq; subst hX; subst hY
  iapply (wp_put_o 2 6 (n := 6) (n' := 7) rfl rfl ?_ ?_) $$ Ho
  · rfl
  · rfl
  iintro Ho
  iapply (wp_put_o 2 7 (n := 7) (n' := 8) rfl rfl ?_ ?_) $$ Ho
  · rfl
  · rfl
  iintro Ho
  iapply (wp_put_t 2 0 (n := 0) (n' := 1) rfl rfl ?_ ?_) $$ Ht
  · rfl
  · rfl
  iintro Ht
  iapply (wp_put_t 2 1 (n := 1) (n' := 2) rfl rfl ?_ ?_) $$ Ht
  · rfl
  · rfl
  iintro Ht
  unfold goO; icases Hg with ⟨Hat, Ht1, Ht2⟩
  iapply (wp_send_o m K _ 2 (dev11_eq c) 10 rfl rfl rfl rfl rfl) $$ [HO Hat Ht1 Ht2 Ho Hd]
  · isplitr; · iexact HE
    isplitl [HO]; · iexact HO
    isplitl [Hat]; · iexact Hat
    isplitl [Ht1]; · iexact Ht1
    isplitl [Ht2]; · iexact Ht2
    isplitl [Ho]; · iexact Ho
    iexact Hd
  iintro ⟨HO, Hr⟩
  ispecialize Hk $$ [HO Hr Ht]
  · isplitl [HO]; · iexact HO
    isplitl [Hr]; · iexact Hr
    iexact Ht
  iapply (runs_eq ?_) $$ Hk
  rfl

theorem part26_spec (Kt : _ → sProp 𝕄) :
    iprop(env m K ∗ owesE c (Od c 11) ∗ goT c 2 ∗ tHas c ssM 2 (tP m c 2) ∗ tAny (rot c (3 - (2 : Fin 3).val)) srM 2 ∗ ready c (some (0, 0)) ∗ ready c (some (0, 1)) ∗ ready c (some (0, 2)) ∗ ready c (some (2, 0))
        ∗ ((owesE c (Od c 12) ∗ ready c (some (3, 2)) ∗ done c (some (0, 0)) ∗ done c (some (0, 1)) ∗ done c (some (0, 2)) ∗ done c (some (2, 0)) ∗ pay m c (some (0, 0)) 0 ∗ pay m c (some (0, 1)) 0 ∗ pay m c (some (0, 2)) 0 ∗ pay m c (some (2, 0)) 0) -∗ Kt ⟨⟩))
      ⊢ runs c (At (k0_part26 (F := F)) c) Kt := by
  rw [k0_part26_eq_skeleton]
  unfold At k0_part26_skel
  simp only [Prog.lift, Prog.bind_op, Prog.bind_ret, Prog.pure_eq_ret]
  iintro ⟨#HE, HO, Hg, Ht, Hd, Hr0, Hr1, Hr2, Hr3, Hk⟩
  unfold goT; icases Hg with ⟨Hat, Ht1, Ht2⟩
  iapply (wp_send_t m K _ 2 (dev12_eq c) 11 rfl rfl rfl rfl rfl) $$ [HO Hat Ht1 Ht2 Ht Hd]
  · isplitr; · iexact HE
    isplitl [HO]; · iexact HO
    isplitl [Hat]; · iexact Hat
    isplitl [Ht1]; · iexact Ht1
    isplitl [Ht2]; · iexact Ht2
    isplitl [Ht]; · iexact Ht
    iexact Hd
  iintro ⟨HO, Hs⟩
  iapply (wp_wait_cell m K c (0, 0) 12 (by decide) ?_ ?_) $$ [HO Hr0]
  · rfl
  · rfl
  · isplitr; · iexact HE
    isplitl [HO]; · iexact HO
    iexact Hr0
  iintro ⟨HO, Hz0, Hp0⟩
  iapply (wp_wait_cell m K c (0, 1) 12 (by decide) ?_ ?_) $$ [HO Hr1]
  · rfl
  · rfl
  · isplitr; · iexact HE
    isplitl [HO]; · iexact HO
    iexact Hr1
  iintro ⟨HO, Hz1, Hp1⟩
  iapply (wp_wait_cell m K c (0, 2) 12 (by decide) ?_ ?_) $$ [HO Hr2]
  · rfl
  · rfl
  · isplitr; · iexact HE
    isplitl [HO]; · iexact HO
    iexact Hr2
  iintro ⟨HO, Hz2, Hp2⟩
  iapply (wp_wait_cell m K c (2, 0) 12 (by decide) ?_ ?_) $$ [HO Hr3]
  · rfl
  · rfl
  · isplitr; · iexact HE
    isplitl [HO]; · iexact HO
    iexact Hr3
  iintro ⟨HO, Hz3, Hp3⟩
  ispecialize Hk $$ [HO Hs Hz0 Hz1 Hz2 Hz3 Hp0 Hp1 Hp2 Hp3]
  · isplitl [HO]; · iexact HO
    isplitl [Hs]; · iexact Hs
    isplitl [Hz0]; · iexact Hz0
    isplitl [Hz1]; · iexact Hz1
    isplitl [Hz2]; · iexact Hz2
    isplitl [Hz3]; · iexact Hz3
    isplitl [Hp0]; · iexact Hp0
    isplitl [Hp1]; · iexact Hp1
    isplitl [Hp2]; · iexact Hp2
    iexact Hp3
  iapply (runs_eq ?_) $$ Hk
  rfl

theorem part27_spec (v253 : BitVec 32) (Kt : _ → sProp 𝕄) :
    iprop(env m K ∗ owesE c (Od c 12) ∗ ready c (some (3, 0)) ∗ ready c (some (4, 0)) ∗ ready c (some (5, 0))
        ∗ ((owesE c (Od c 12) ∗ done c (some (3, 0)) ∗ done c (some (4, 0)) ∗ done c (some (5, 0)) ∗ pay m c (some (3, 0)) 0 ∗ pay m c (some (4, 0)) 0 ∗ pay m c (some (5, 0)) 0) -∗ Kt ⟨⟩))
      ⊢ runs c (At (k0_part27 (F := F)) v253) Kt := by
  rw [k0_part27_eq_skeleton]
  unfold At k0_part27_skel
  simp only [Prog.lift, Prog.bind_op, Prog.bind_ret, Prog.pure_eq_ret]
  iintro ⟨#HE, HO, Hr0, Hr1, Hr2, Hk⟩
  iapply (wp_wait_cell m K c (3, 0) 12 (by decide) ?_ ?_) $$ [HO Hr0]
  · rfl
  · rfl
  · isplitr; · iexact HE
    isplitl [HO]; · iexact HO
    iexact Hr0
  iintro ⟨HO, Hz0, Hp0⟩
  iapply (wp_wait_cell m K c (4, 0) 12 (by decide) ?_ ?_) $$ [HO Hr1]
  · rfl
  · rfl
  · isplitr; · iexact HE
    isplitl [HO]; · iexact HO
    iexact Hr1
  iintro ⟨HO, Hz1, Hp1⟩
  iapply (wp_wait_cell m K c (5, 0) 12 (by decide) ?_ ?_) $$ [HO Hr2]
  · rfl
  · rfl
  · isplitr; · iexact HE
    isplitl [HO]; · iexact HO
    iexact Hr2
  iintro ⟨HO, Hz2, Hp2⟩
  ispecialize Hk $$ [HO Hz0 Hz1 Hz2 Hp0 Hp1 Hp2]
  · isplitl [HO]; · iexact HO
    isplitl [Hz0]; · iexact Hz0
    isplitl [Hz1]; · iexact Hz1
    isplitl [Hz2]; · iexact Hz2
    isplitl [Hp0]; · iexact Hp0
    isplitl [Hp1]; · iexact Hp1
    iexact Hp2
  iapply (runs_eq ?_) $$ Hk
  rfl

theorem part28_spec (v474 : BitVec 32) (Kt : _ → sProp 𝕄) :
    iprop(env m K ∗ owesE c (Od c 12) ∗ ready c (some (2, 1)) ∗ ready c (some (3, 1)) ∗ ready c (some (4, 1)) ∗ ready c (some (5, 1))
        ∗ ((owesE c (Od c 12) ∗ done c (some (2, 1)) ∗ done c (some (3, 1)) ∗ done c (some (4, 1)) ∗ done c (some (5, 1)) ∗ pay m c (some (2, 1)) 0 ∗ pay m c (some (3, 1)) 0 ∗ pay m c (some (4, 1)) 0 ∗ pay m c (some (5, 1)) 0) -∗ Kt ⟨⟩))
      ⊢ runs c (At (k0_part28 (F := F)) v474) Kt := by
  rw [k0_part28_eq_skeleton]
  unfold At k0_part28_skel
  simp only [Prog.lift, Prog.bind_op, Prog.bind_ret, Prog.pure_eq_ret]
  iintro ⟨#HE, HO, Hr0, Hr1, Hr2, Hr3, Hk⟩
  iapply (wp_wait_cell m K c (2, 1) 12 (by decide) ?_ ?_) $$ [HO Hr0]
  · rfl
  · rfl
  · isplitr; · iexact HE
    isplitl [HO]; · iexact HO
    iexact Hr0
  iintro ⟨HO, Hz0, Hp0⟩
  iapply (wp_wait_cell m K c (3, 1) 12 (by decide) ?_ ?_) $$ [HO Hr1]
  · rfl
  · rfl
  · isplitr; · iexact HE
    isplitl [HO]; · iexact HO
    iexact Hr1
  iintro ⟨HO, Hz1, Hp1⟩
  iapply (wp_wait_cell m K c (4, 1) 12 (by decide) ?_ ?_) $$ [HO Hr2]
  · rfl
  · rfl
  · isplitr; · iexact HE
    isplitl [HO]; · iexact HO
    iexact Hr2
  iintro ⟨HO, Hz2, Hp2⟩
  iapply (wp_wait_cell m K c (5, 1) 12 (by decide) ?_ ?_) $$ [HO Hr3]
  · rfl
  · rfl
  · isplitr; · iexact HE
    isplitl [HO]; · iexact HO
    iexact Hr3
  iintro ⟨HO, Hz3, Hp3⟩
  ispecialize Hk $$ [HO Hz0 Hz1 Hz2 Hz3 Hp0 Hp1 Hp2 Hp3]
  · isplitl [HO]; · iexact HO
    isplitl [Hz0]; · iexact Hz0
    isplitl [Hz1]; · iexact Hz1
    isplitl [Hz2]; · iexact Hz2
    isplitl [Hz3]; · iexact Hz3
    isplitl [Hp0]; · iexact Hp0
    isplitl [Hp1]; · iexact Hp1
    isplitl [Hp2]; · iexact Hp2
    iexact Hp3
  iapply (runs_eq ?_) $$ Hk
  rfl

theorem part29_spec (v695 : BitVec 32) (Kt : _ → sProp 𝕄) :
    iprop(env m K ∗ owesE c (Od c 12) ∗ ready c (some (2, 2)) ∗ ready c (some (3, 2)) ∗ ready c (some (4, 2))
        ∗ ((owesE c (Od c 12) ∗ done c (some (2, 2)) ∗ done c (some (3, 2)) ∗ done c (some (4, 2)) ∗ pay m c (some (2, 2)) 0 ∗ pay m c (some (3, 2)) 0 ∗ pay m c (some (4, 2)) 0) -∗ Kt ⟨⟩))
      ⊢ runs c (At (k0_part29 (F := F)) v695) Kt := by
  rw [k0_part29_eq_skeleton]
  unfold At k0_part29_skel
  simp only [Prog.lift, Prog.bind_op, Prog.bind_ret, Prog.pure_eq_ret]
  iintro ⟨#HE, HO, Hr0, Hr1, Hr2, Hk⟩
  iapply (wp_wait_cell m K c (2, 2) 12 (by decide) ?_ ?_) $$ [HO Hr0]
  · rfl
  · rfl
  · isplitr; · iexact HE
    isplitl [HO]; · iexact HO
    iexact Hr0
  iintro ⟨HO, Hz0, Hp0⟩
  iapply (wp_wait_cell m K c (3, 2) 12 (by decide) ?_ ?_) $$ [HO Hr1]
  · rfl
  · rfl
  · isplitr; · iexact HE
    isplitl [HO]; · iexact HO
    iexact Hr1
  iintro ⟨HO, Hz1, Hp1⟩
  iapply (wp_wait_cell m K c (4, 2) 12 (by decide) ?_ ?_) $$ [HO Hr2]
  · rfl
  · rfl
  · isplitr; · iexact HE
    isplitl [HO]; · iexact HO
    iexact Hr2
  iintro ⟨HO, Hz2, Hp2⟩
  ispecialize Hk $$ [HO Hz0 Hz1 Hz2 Hp0 Hp1 Hp2]
  · isplitl [HO]; · iexact HO
    isplitl [Hz0]; · iexact Hz0
    isplitl [Hz1]; · iexact Hz1
    isplitl [Hz2]; · iexact Hz2
    isplitl [Hp0]; · iexact Hp0
    isplitl [Hp1]; · iexact Hp1
    iexact Hp2
  iapply (runs_eq ?_) $$ Hk
  rfl

variable {s0 : Fin 2 → Vec F S256x8 .f32} {st : Fin 3 → Fin 2 → Vec F S1x256x8 .f32} {o : Fin 8 → Vec F S256x128 .f32} {po : Fin 3 → Fin 8 → Vec F S1x256x128 .bf16}

theorem part30_spec (hst : pay m c (some (5, 2)) 0 ⊢ tHas c srM 2 (st 2)) (Kt : _ → sProp 𝕄) :
    iprop(env m K ∗ owesE c (Od c 12) ∗ ready c (some (5, 2)) ∗ msHas 2 c s0 ∗ tHas c srM 0 (st 0) ∗ tHas c srM 1 (st 1)
        ∗ ((owesE c (Od c 12) ∗ done c (some (5, 2)) ∗ stats s0 st c) -∗ Kt ⟨tl st 0 1, tl st 1 1, tl st 2 1, a0 s0 st, al s0 st 0, al s0 st 1, al s0 st 2, l0 s0 st, zr⟩))
      ⊢ runs c (At (k0_part30 (F := F))) Kt := by
  rw [k0_part30_eq_skeleton]
  unfold At k0_part30_skel
  simp only [Prog.lift, Prog.bind_op, Prog.bind_ret, Prog.pure_eq_ret]
  iintro ⟨#HE, HO, Hr, Hm, H0, H1, Hk⟩
  iapply (wp_wait_cell m K c (5, 2) 12 (by decide) ?_ ?_) $$ [HO Hr]
  · rfl
  · rfl
  · isplitr; · iexact HE
    isplitl [HO]; · iexact HO
    iexact Hr
  iintro ⟨HO, Hz, Hp⟩
  ihave Hp := (hst) $$ Hp
  ihave Hs : stats s0 st c $$ [Hm H0 H1 Hp]
  · unfold stats
    isplitl [Hm]; · iexact Hm
    isplitl [H0]; · iexact H0
    isplitl [H1]; · iexact H1
    iexact Hp
  iapply (wp_get_ms 0 ?_) $$ Hs
  · rfl
  iintro Hs
  iapply (wp_get_t 0 0 ?_) $$ Hs
  · rfl
  iintro Hs
  iapply (wp_get_t 1 0 ?_) $$ Hs
  · rfl
  iintro Hs
  iapply (wp_get_t 2 0 ?_) $$ Hs
  · rfl
  iintro Hs
  iapply (wp_get_ms 1 ?_) $$ Hs
  · rfl
  iintro Hs
  iapply (wp_get_t 0 1 ?_) $$ Hs
  · rfl
  iintro Hs
  iapply (wp_get_t 1 1 ?_) $$ Hs
  · rfl
  iintro Hs
  iapply (wp_get_t 2 1 ?_) $$ Hs
  · rfl
  iintro Hs
  ispecialize Hk $$ [HO Hz Hs]
  · isplitl [HO]; · iexact HO
    isplitl [Hz]; · iexact Hz
    iexact Hs
  iapply (runs_eq ?_) $$ Hk
  rfl

theorem part31_spec (Kt : _ → sProp 𝕄) :
    iprop(outs o po c
        ∗ (outs o po c -∗ Kt ⟨lst s0 st, hd s0 st o po 0, b0 s0 st o 1, pe po 0 1, col (al s0 st 0) 1⟩))
      ⊢ runs c (At (k0_part31 (F := F)) (tl st 0 1) (tl st 1 1) (tl st 2 1) (a0 s0 st) (al s0 st 0) (al s0 st 1) (al s0 st 2) (l0 s0 st) zr) Kt := by
  rw [k0_part31_eq_skeleton]
  unfold At k0_part31_skel
  simp only [Prog.lift, Prog.bind_op, Prog.bind_ret, Prog.pure_eq_ret]
  iintro ⟨Ho, Hk⟩
  iapply (wp_get_mo 0 ?_) $$ Ho
  · rfl
  iintro Ho
  iapply (wp_get_o 0 0 ?_) $$ Ho
  · rfl
  iintro Ho
  iapply (wp_get_o 1 0 ?_) $$ Ho
  · rfl
  iintro Ho
  iapply (wp_get_o 2 0 ?_) $$ Ho
  · rfl
  iintro Ho
  iapply (wp_get_mo 1 ?_) $$ Ho
  · rfl
  iintro Ho
  iapply (wp_get_o 0 1 ?_) $$ Ho
  · rfl
  iintro Ho
  ispecialize Hk $$ Ho
  iapply (runs_eq ?_) $$ Hk
  rfl

theorem part32_spec (Kt : _ → sProp 𝕄) :
    iprop(outs o po c
        ∗ (outs o po c -∗ Kt ⟨hd s0 st o po 1, b2 s0 st o po 2, pe po 2 2, col (al s0 st 2) 2⟩))
      ⊢ runs c (At (k0_part32 (F := F)) (a0 s0 st) (al s0 st 0) (al s0 st 1) (al s0 st 2) (lst s0 st) (b0 s0 st o 1) (pe po 0 1) (col (al s0 st 0) 1)) Kt := by
  rw [k0_part32_eq_skeleton]
  unfold At k0_part32_skel
  simp only [Prog.lift, Prog.bind_op, Prog.bind_ret, Prog.pure_eq_ret]
  iintro ⟨Ho, Hk⟩
  iapply (wp_get_o 1 1 ?_) $$ Ho
  · rfl
  iintro Ho
  iapply (wp_get_o 2 1 ?_) $$ Ho
  · rfl
  iintro Ho
  iapply (wp_get_mo 2 ?_) $$ Ho
  · rfl
  iintro Ho
  iapply (wp_get_o 0 2 ?_) $$ Ho
  · rfl
  iintro Ho
  iapply (wp_get_o 1 2 ?_) $$ Ho
  · rfl
  iintro Ho
  iapply (wp_get_o 2 2 ?_) $$ Ho
  · rfl
  iintro Ho
  ispecialize Hk $$ Ho
  iapply (runs_eq ?_) $$ Hk
  rfl

theorem part33_spec (Kt : _ → sProp 𝕄) :
    iprop(outs o po c
        ∗ (outs o po c -∗ Kt ⟨hd s0 st o po 2, hd s0 st o po 3, b0 s0 st o 4, pe po 0 4, col (al s0 st 0) 4⟩))
      ⊢ runs c (At (k0_part33 (F := F)) (a0 s0 st) (al s0 st 0) (al s0 st 1) (al s0 st 2) (lst s0 st) (b2 s0 st o po 2) (pe po 2 2) (col (al s0 st 2) 2)) Kt := by
  rw [k0_part33_eq_skeleton]
  unfold At k0_part33_skel
  simp only [Prog.lift, Prog.bind_op, Prog.bind_ret, Prog.pure_eq_ret]
  iintro ⟨Ho, Hk⟩
  iapply (wp_get_mo 3 ?_) $$ Ho
  · rfl
  iintro Ho
  iapply (wp_get_o 0 3 ?_) $$ Ho
  · rfl
  iintro Ho
  iapply (wp_get_o 1 3 ?_) $$ Ho
  · rfl
  iintro Ho
  iapply (wp_get_o 2 3 ?_) $$ Ho
  · rfl
  iintro Ho
  iapply (wp_get_mo 4 ?_) $$ Ho
  · rfl
  iintro Ho
  iapply (wp_get_o 0 4 ?_) $$ Ho
  · rfl
  iintro Ho
  ispecialize Hk $$ Ho
  iapply (runs_eq ?_) $$ Hk
  rfl

theorem part34_spec (Kt : _ → sProp 𝕄) :
    iprop(outs o po c
        ∗ (outs o po c -∗ Kt ⟨hd s0 st o po 4, b2 s0 st o po 5, pe po 2 5, col (al s0 st 2) 5⟩))
      ⊢ runs c (At (k0_part34 (F := F)) (a0 s0 st) (al s0 st 0) (al s0 st 1) (al s0 st 2) (lst s0 st) (b0 s0 st o 4) (pe po 0 4) (col (al s0 st 0) 4)) Kt := by
  rw [k0_part34_eq_skeleton]
  unfold At k0_part34_skel
  simp only [Prog.lift, Prog.bind_op, Prog.bind_ret, Prog.pure_eq_ret]
  iintro ⟨Ho, Hk⟩
  iapply (wp_get_o 1 4 ?_) $$ Ho
  · rfl
  iintro Ho
  iapply (wp_get_o 2 4 ?_) $$ Ho
  · rfl
  iintro Ho
  iapply (wp_get_mo 5 ?_) $$ Ho
  · rfl
  iintro Ho
  iapply (wp_get_o 0 5 ?_) $$ Ho
  · rfl
  iintro Ho
  iapply (wp_get_o 1 5 ?_) $$ Ho
  · rfl
  iintro Ho
  iapply (wp_get_o 2 5 ?_) $$ Ho
  · rfl
  iintro Ho
  ispecialize Hk $$ Ho
  iapply (runs_eq ?_) $$ Hk
  rfl

theorem part35_spec (Kt : _ → sProp 𝕄) :
    iprop(outs o po c
        ∗ (outs o po c -∗ Kt ⟨hd s0 st o po 5, hd s0 st o po 6, b0 s0 st o 7, pe po 0 7, col (al s0 st 0) 7⟩))
      ⊢ runs c (At (k0_part35 (F := F)) (a0 s0 st) (al s0 st 0) (al s0 st 1) (al s0 st 2) (lst s0 st) (b2 s0 st o po 5) (pe po 2 5) (col (al s0 st 2) 5)) Kt := by
  rw [k0_part35_eq_skeleton]
  unfold At k0_part35_skel
  simp only [Prog.lift, Prog.bind_op, Prog.bind_ret, Prog.pure_eq_ret]
  iintro ⟨Ho, Hk⟩
  iapply (wp_get_mo 6 ?_) $$ Ho
  · rfl
  iintro Ho
  iapply (wp_get_o 0 6 ?_) $$ Ho
  · rfl
  iintro Ho
  iapply (wp_get_o 1 6 ?_) $$ Ho
  · rfl
  iintro Ho
  iapply (wp_get_o 2 6 ?_) $$ Ho
  · rfl
  iintro Ho
  iapply (wp_get_mo 7 ?_) $$ Ho
  · rfl
  iintro Ho
  iapply (wp_get_o 0 7 ?_) $$ Ho
  · rfl
  iintro Ho
  ispecialize Hk $$ Ho
  iapply (runs_eq ?_) $$ Hk
  rfl

end Pieces

end Cert.RingAttn

end
-- ==== Proof.Chain.lean ====
/-
The body, run once at an arbitrary device: its pieces in turn.
-/
module

public import proofs.«01_k».proof.Proof.Parts

@[expose] public section

set_option maxRecDepth 16384

noncomputable section

namespace Cert.RingAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CK → ℕ)

/-- The statistics and partial outputs the four devices compute for device `c`: its own, and those of the device `s + 1` places round. -/
abbrev sOwn (c : Dev nD) : Fin 2 → Vec F S256x8 .f32 := msW (qv m c) (ks m c)
abbrev sGot (c : Dev nD) (s : Fin 3) : Fin 2 → Vec F S1x256x8 .f32 := tW (qv m c) (ks m (rot c (s.val + 1)))
abbrev oOwn (c : Dev nD) : Fin 8 → Vec F S256x128 .f32 := moW (qv m c) (ks m c) (vs m c)
abbrev oGot (c : Dev nD) (s : Fin 3) : Fin 8 → Vec F S1x256x128 .bf16 := oW (qv m c) (ks m (rot c (s.val + 1))) (vs m (rot c (s.val + 1)))
/-- What device `c` stores as its block of the result. -/
def outv (c : Dev nD) : FVec F S256x1024 .f32 := comb (sOwn m c) (sGot m c) (oOwn m c) (oGot m c) (wos m c)

theorem runs_bind {c : Dev nD} {α β : Type} {p : Prog (TpuEff nD τ sig (Elt F) Λ₀ .tc) α} {f : α → Prog (TpuEff nD τ sig (Elt F) Λ₀ .tc) β} {Q : β → sProp 𝕄} :
    runs c p (fun a => runs c (f a) Q) ⊢ runs c (p >>= f) Q := by
  show wp _ _ _ p _ ⊢ wp _ _ _ (p >>= f) Q
  rw [wp_bind]

/-- What the barrier's three signals hand over, in the senders' terms. -/
theorem bar_got (c : Dev nD) : ∀ s : Fin 3, barPay (F := F) c s ⊢ (match s with
    | 0 => iprop(oAny (rot c (3 - (0 : Fin 3).val)) prM 0 ∗ tAny (rot c (3 - (0 : Fin 3).val)) srM 0)
    | 1 => iprop(oAny (rot c (3 - (1 : Fin 3).val)) prM 1 ∗ tAny (rot c (3 - (1 : Fin 3).val)) srM 1)
    | 2 => iprop(oAny (rot c (3 - (2 : Fin 3).val)) prM 2 ∗ tAny (rot c (3 - (2 : Fin 3).val)) srM 2
        ∗ qAny (rot c 1) (rot c 4) ∗ qAny (rot c 1) (rot c 3) ∗ qAny (rot c 1) (rot c 2)) : sProp 𝕄)
  | 0 => BI.Entails.refl _
  | 1 => BI.Entails.refl _
  | 2 => BI.Entails.refl _

theorem pay_o (c : Dev nD) (s : Fin 3) : pay m c (some (4, s)) 0 ⊢ oHas c prM s (oGot m c s) := BI.Entails.refl _
theorem pay_t (c : Dev nD) (s : Fin 3) : pay m c (some (5, s)) 0 ⊢ tHas c srM s (sGot m c s) := BI.Entails.refl _

/-- What the body's first 36 pieces start from, beside the invariants; -/
def start36 (c : Dev nD) : sProp 𝕄 := iprop(owesE c (Od c 0)
    ∗ tok (rot c ((0 : Fin 3).val + 1)) none 0
    ∗ tok (rot c ((1 : Fin 3).val + 1)) none 1
    ∗ tok (rot c ((2 : Fin 3).val + 1)) none 2
    ∗ barPay (rot c ((0 : Fin 3).val + 1)) 0
    ∗ barPay (rot c ((1 : Fin 3).val + 1)) 1
    ∗ barPay (rot c ((2 : Fin 3).val + 1)) 2
    ∗ ready c none
    ∗ ready c (some (1, 0))
    ∗ ready c (some (1, 1))
    ∗ ready c (some (1, 2))
    ∗ ready c (some (4, 0))
    ∗ ready c (some (4, 1))
    ∗ ready c (some (4, 2))
    ∗ ready c (some (5, 0))
    ∗ ready c (some (5, 1))
    ∗ ready c (some (5, 2))
    ∗ goQ c 0
    ∗ goQ c 1
    ∗ goQ c 2
    ∗ goO c 0
    ∗ goO c 1
    ∗ goO c 2
    ∗ goT c 0
    ∗ goT c 1
    ∗ goT c 2
    ∗ (xM.view.loc (c : Thread nD τ) ↦{fullShare} xs m c)
    ∗ (wqM.view.loc (c : Thread nD τ) ↦{fullShare} wqs m c)
    ∗ kv c (ks m c) (vs m c)
    ∗ qAny c c
    ∗ oHasN 0 c psM 0 (oW (qv m (rot c 3)) (ks m c) (vs m c))
    ∗ oHasN 0 c psM 1 (oW (qv m (rot c 2)) (ks m c) (vs m c))
    ∗ oHasN 0 c psM 2 (oW (qv m (rot c 1)) (ks m c) (vs m c))
    ∗ tHasN 0 c ssM 0 (tW (qv m (rot c 3)) (ks m c))
    ∗ tHasN 0 c ssM 1 (tW (qv m (rot c 2)) (ks m c))
    ∗ tHasN 0 c ssM 2 (tW (qv m (rot c 1)) (ks m c))
    ∗ moHas 0 c (oOwn m c)
    ∗ msHas 0 c (sOwn m c))

/-- what they end with. -/
def end36 (c : Dev nD) : sProp 𝕄 := iprop(owesE c (Od c 12)
    ∗ done c none
    ∗ done c (some (0, 0))
    ∗ done c (some (0, 1))
    ∗ done c (some (0, 2))
    ∗ done c (some (1, 0))
    ∗ done c (some (1, 1))
    ∗ done c (some (1, 2))
    ∗ done c (some (2, 0))
    ∗ done c (some (2, 1))
    ∗ done c (some (2, 2))
    ∗ done c (some (3, 0))
    ∗ done c (some (3, 1))
    ∗ done c (some (3, 2))
    ∗ done c (some (4, 0))
    ∗ done c (some (4, 1))
    ∗ done c (some (4, 2))
    ∗ done c (some (5, 0))
    ∗ done c (some (5, 1))
    ∗ done c (some (5, 2))
    ∗ (xM.view.loc (c : Thread nD τ) ↦{fullShare} xs m c)
    ∗ (wqM.view.loc (c : Thread nD τ) ↦{fullShare} wqs m c)
    ∗ kv c (ks m c) (vs m c)
    ∗ qHas c c fullShare.left (qv m c)
    ∗ qHas c (rot c 3) fullShare.left (qv m (rot c 3))
    ∗ qHas c (rot c 2) fullShare.left (qv m (rot c 2))
    ∗ qHas c (rot c 1) fullShare (qv m (rot c 1))
    ∗ pay m c (some (0, 0)) 0
    ∗ pay m c (some (0, 1)) 0
    ∗ pay m c (some (0, 2)) 0
    ∗ pay m c (some (2, 0)) 0
    ∗ pay m c (some (2, 1)) 0
    ∗ pay m c (some (2, 2)) 0
    ∗ pay m c (some (3, 0)) 0
    ∗ pay m c (some (3, 1)) 0
    ∗ pay m c (some (3, 2)) 0
    ∗ stats (sOwn m c) (sGot m c) c
    ∗ outs (oOwn m c) (oGot m c) c)

theorem part36_spec (c : Dev nD) (Kt : _ → sProp 𝕄) :
    iprop(env m K ∗ start36 m c ∗ (end36 m c -∗ Kt ⟨hd (sOwn m c) (sGot m c) (oOwn m c) (oGot m c) 0, hd (sOwn m c) (sGot m c) (oOwn m c) (oGot m c) 1, hd (sOwn m c) (sGot m c) (oOwn m c) (oGot m c) 2, hd (sOwn m c) (sGot m c) (oOwn m c) (oGot m c) 3, hd (sOwn m c) (sGot m c) (oOwn m c) (oGot m c) 4, hd (sOwn m c) (sGot m c) (oOwn m c) (oGot m c) 5, hd (sOwn m c) (sGot m c) (oOwn m c) (oGot m c) 6, b3 (sOwn m c) (sGot m c) (oOwn m c) (oGot m c) 7, bc (lst (sOwn m c) (sGot m c)) 7⟩))
      ⊢ runs c (At (k0_part36 (F := F))) Kt := by
  rw [k0_part36_eq_skeleton]
  unfold At k0_part36_skel start36
  iintro ⟨#HE, ⟨HO, Tb0, Tb1, Tb2, Bp0, Bp1, Bp2, Rb, RQ0, RQ1, RQ2, RO0, RO1, RO2, RT0, RT1, RT2, GQ0, GQ1, GQ2, GO0, GO1, GO2, GT0, GT1, GT2, Hx, Hw, HKV, Hq, Po0, Po1, Po2, Pt0, Pt1, Pt2, Mo, Ms⟩, Hk⟩
  iapply runs_bind
  iapply (part1_spec m K c _)
  isplitr; · iexact HE
  isplitl [HO]; · iexact HO
  isplitl [Tb0]; · iexact Tb0
  isplitl [Bp0]; · iexact Bp0
  iintro %v2 %v13 %v30 %v31 %v32 %z HO
  dsimp only
  iapply runs_bind
  iapply (part2_spec m K c v2 v30 v31 z v32 _)
  isplitr; · iexact HE
  isplitl [HO]; · iexact HO
  isplitl [Tb1]; · iexact Tb1
  isplitl [Bp1]; · iexact Bp1
  isplitl [Tb2]; · iexact Tb2
  isplitl [Bp2]; · iexact Bp2
  isplitl [Rb]; · iexact Rb
  isplitl [Hx]; · iexact Hx
  isplitl [Hw]; · iexact Hw
  isplitl [Hq]; · iexact Hq
  iintro ⟨HO, Zb, HB0, HB1, HB2, Hx, Hw, Hq⟩
  ihave HB0 := (bar_got c 0) $$ HB0
  icases HB0 with ⟨Do0, Dt0⟩
  ihave HB1 := (bar_got c 1) $$ HB1
  icases HB1 with ⟨Do1, Dt1⟩
  ihave HB2 := (bar_got c 2) $$ HB2
  icases HB2 with ⟨Do2, Dt2, Dq0, Dq1, Dq2⟩
  iapply runs_bind
  iapply (part3_spec m K c v2 v13 _)
  isplitr; · iexact HE
  isplitl [HO]; · iexact HO
  isplitl [GQ0]; · iexact GQ0
  isplitl [Hq]; · iexact Hq
  isplitl [Dq0]; · iexact Dq0
  isplitl [HKV]; · iexact HKV
  iintro ⟨HO, RA0, Lq0, HKV⟩
  dsimp only
  iapply runs_bind
  iapply (part4_spec c _)
  isplitl [HKV]; · iexact HKV
  iintro HKV
  dsimp only
  iapply runs_bind
  iapply (part5_spec c _)
  isplitl [HKV]; · iexact HKV
  iintro HKV
  dsimp only
  iapply runs_bind
  iapply (part6_spec c _)
  isplitl [HKV]; · iexact HKV
  isplitl [Mo]; · iexact Mo
  iintro ⟨HKV, Mo⟩
  dsimp only
  iapply runs_bind
  iapply (part7_spec c v2 _)
  isplitl [Mo]; · iexact Mo
  isplitl [Ms]; · iexact Ms
  iintro %v245 %v246 %v247 ⟨Mo, Ms⟩
  dsimp only
  iapply runs_bind
  iapply (part8_spec m K c v2 v13 v245 v246 v247 _)
  isplitr; · iexact HE
  isplitl [HO]; · iexact HO
  isplitl [RQ0]; · iexact RQ0
  isplitl [GQ1]; · iexact GQ1
  isplitl [Dq1]; · iexact Dq1
  iintro %v253 %v281 ⟨HO, ZQ0, RA1, Lq1⟩
  dsimp only
  iapply runs_bind
  iapply (part9_spec c v281 _)
  isplitl [Lq1]; · iexact Lq1
  isplitl [HKV]; · iexact HKV
  iintro ⟨Lq1, HKV⟩
  dsimp only
  iapply runs_bind
  iapply (part10_spec c _)
  isplitl [HKV]; · iexact HKV
  iintro HKV
  dsimp only
  iapply runs_bind
  iapply (part11_spec c _)
  isplitl [HKV]; · iexact HKV
  iintro HKV
  dsimp only
  iapply runs_bind
  iapply (part12_spec c _)
  isplitl [Po0]; · iexact Po0
  iintro Po0
  dsimp only
  iapply runs_bind
  iapply (part13_spec m K c v253 ?_ ?_ ?_ _)
  · rfl
  · rfl
  · rfl
  isplitr; · iexact HE
  isplitl [HO]; · iexact HO
  isplitl [GO0]; · iexact GO0
  isplitl [Po0]; · iexact Po0
  isplitl [Pt0]; · iexact Pt0
  isplitl [Do0]; · iexact Do0
  iintro ⟨HO, Ro0, Pt0⟩
  iapply runs_bind
  iapply (part14_spec m K c v2 v13 _)
  isplitr; · iexact HE
  isplitl [HO]; · iexact HO
  isplitl [GT0]; · iexact GT0
  isplitl [Pt0]; · iexact Pt0
  isplitl [Dt0]; · iexact Dt0
  isplitl [RQ1]; · iexact RQ1
  iintro %v474 %v491 ⟨HO, Rt0, ZQ1, Hp⟩
  dsimp only
  iapply runs_bind
  iapply (part15_spec m K c v13 v474 v491 _)
  isplitr; · iexact HE
  isplitl [HO]; · iexact HO
  isplitl [GQ2]; · iexact GQ2
  isplitl [Hp]; · iexact Hp
  isplitl [Dq2]; · iexact Dq2
  isplitl [HKV]; · iexact HKV
  iintro ⟨HO, RA2, Lq2, HKV⟩
  dsimp only
  iapply runs_bind
  iapply (part16_spec c _)
  isplitl [HKV]; · iexact HKV
  iintro HKV
  dsimp only
  iapply runs_bind
  iapply (part17_spec c _)
  isplitl [HKV]; · iexact HKV
  iintro HKV
  dsimp only
  iapply runs_bind
  iapply (part18_spec c _)
  isplitl [HKV]; · iexact HKV
  isplitl [Po1]; · iexact Po1
  iintro ⟨HKV, Po1⟩
  dsimp only
  iapply runs_bind
  iapply (part19_spec c v474 _)
  isplitl [Po1]; · iexact Po1
  isplitl [Pt1]; · iexact Pt1
  iintro ⟨Po1, Pt1⟩
  iapply runs_bind
  iapply (part20_spec m K c v2 v13 v474 _)
  isplitr; · iexact HE
  isplitl [HO]; · iexact HO
  isplitl [GO1]; · iexact GO1
  isplitl [Po1]; · iexact Po1
  isplitl [Do1]; · iexact Do1
  isplitl [GT1]; · iexact GT1
  isplitl [Pt1]; · iexact Pt1
  isplitl [Dt1]; · iexact Dt1
  isplitl [RQ2]; · iexact RQ2
  iintro %v695 %v696 ⟨HO, Ro1, Rt1, ZQ2, Lq3⟩
  dsimp only
  iapply runs_bind
  iapply (part21_spec c v695 v696 _)
  isplitl [Lq3]; · iexact Lq3
  isplitl [HKV]; · iexact HKV
  iintro ⟨Lq3, HKV⟩
  dsimp only
  iapply runs_bind
  iapply (part22_spec c _)
  isplitl [HKV]; · iexact HKV
  iintro HKV
  dsimp only
  iapply runs_bind
  iapply (part23_spec c _)
  isplitl [HKV]; · iexact HKV
  iintro HKV
  dsimp only
  iapply runs_bind
  iapply (part24_spec c _)
  isplitl [Po2]; · iexact Po2
  iintro Po2
  dsimp only
  iapply runs_bind
  iapply (part25_spec m K c v695 ?_ ?_ ?_ _)
  · rfl
  · rfl
  · rfl
  isplitr; · iexact HE
  isplitl [HO]; · iexact HO
  isplitl [GO2]; · iexact GO2
  isplitl [Po2]; · iexact Po2
  isplitl [Pt2]; · iexact Pt2
  isplitl [Do2]; · iexact Do2
  iintro ⟨HO, Ro2, Pt2⟩
  iapply runs_bind
  iapply (part26_spec m K c _)
  isplitr; · iexact HE
  isplitl [HO]; · iexact HO
  isplitl [GT2]; · iexact GT2
  isplitl [Pt2]; · iexact Pt2
  isplitl [Dt2]; · iexact Dt2
  isplitl [RA0]; · iexact RA0
  isplitl [RA1]; · iexact RA1
  isplitl [RA2]; · iexact RA2
  isplitl [Ro0]; · iexact Ro0
  iintro ⟨HO, Rt2, Za0, Za1, Za2, Zo0, Pa0, Pa1, Pa2, Po0⟩
  iapply runs_bind
  iapply (part27_spec m K c v253 _)
  isplitr; · iexact HE
  isplitl [HO]; · iexact HO
  isplitl [Rt0]; · iexact Rt0
  isplitl [RO0]; · iexact RO0
  isplitl [RT0]; · iexact RT0
  iintro ⟨HO, Zt0, ZO0, ZT0, Pt0, Go0, Gt0⟩
  iapply runs_bind
  iapply (part28_spec m K c v474 _)
  isplitr; · iexact HE
  isplitl [HO]; · iexact HO
  isplitl [Ro1]; · iexact Ro1
  isplitl [Rt1]; · iexact Rt1
  isplitl [RO1]; · iexact RO1
  isplitl [RT1]; · iexact RT1
  iintro ⟨HO, Zo1, Zt1, ZO1, ZT1, Po1, Pt1, Go1, Gt1⟩
  iapply runs_bind
  iapply (part29_spec m K c v695 _)
  isplitr; · iexact HE
  isplitl [HO]; · iexact HO
  isplitl [Ro2]; · iexact Ro2
  isplitl [Rt2]; · iexact Rt2
  isplitl [RO2]; · iexact RO2
  iintro ⟨HO, Zo2, Zt2, ZO2, Po2, Pt2, Go2⟩
  ihave Gt0 := (pay_t m c 0) $$ Gt0
  ihave Gt1 := (pay_t m c 1) $$ Gt1
  ihave Ho : outs (oOwn m c) (oGot m c) c $$ [Mo Go0 Go1 Go2]
  · unfold outs
    isplitl [Mo]; · iexact Mo
    isplitl [Go0]; · iapply (pay_o m c 0); iexact Go0
    isplitl [Go1]; · iapply (pay_o m c 1); iexact Go1
    iapply (pay_o m c 2); iexact Go2
  iapply runs_bind
  iapply (part30_spec m K c (st := sGot m c) (pay_t m c 2) _)
  isplitr; · iexact HE
  isplitl [HO]; · iexact HO
  isplitl [RT2]; · iexact RT2
  isplitl [Ms]; · iexact Ms
  isplitl [Gt0]; · iexact Gt0
  isplitl [Gt1]; · iexact Gt1
  iintro ⟨HO, ZT2, Hs⟩
  dsimp only
  iapply runs_bind
  iapply (part31_spec c _)
  isplitl [Ho]; · iexact Ho
  iintro Ho
  dsimp only
  iapply runs_bind
  iapply (part32_spec c _)
  isplitl [Ho]; · iexact Ho
  iintro Ho
  dsimp only
  iapply runs_bind
  iapply (part33_spec c _)
  isplitl [Ho]; · iexact Ho
  iintro Ho
  dsimp only
  iapply runs_bind
  iapply (part34_spec c _)
  isplitl [Ho]; · iexact Ho
  iintro Ho
  dsimp only
  iapply runs_bind
  iapply (part35_spec c _)
  isplitl [Ho]; · iexact Ho
  iintro Ho
  dsimp only
  simp only [Prog.lift, Prog.bind_op, Prog.bind_ret, Prog.pure_eq_ret]
  iapply (wp_get_o 1 7 ?_) $$ Ho
  · rfl
  iintro Ho
  iapply (wp_get_o 2 7 ?_) $$ Ho
  · rfl
  iintro Ho
  unfold end36
  ispecialize Hk $$ [HO Zb Za0 Za1 Za2 ZQ0 ZQ1 ZQ2 Zo0 Zo1 Zo2 Zt0 Zt1 Zt2 ZO0 ZO1 ZO2 ZT0 ZT1 ZT2 Hx Hw HKV Lq0 Lq1 Lq2 Lq3 Pa0 Pa1 Pa2 Po0 Po1 Po2 Pt0 Pt1 Pt2 Hs Ho]
  · isplitl [HO]; · iexact HO
    isplitl [Zb]; · iexact Zb
    isplitl [Za0]; · iexact Za0
    isplitl [Za1]; · iexact Za1
    isplitl [Za2]; · iexact Za2
    isplitl [ZQ0]; · iexact ZQ0
    isplitl [ZQ1]; · iexact ZQ1
    isplitl [ZQ2]; · iexact ZQ2
    isplitl [Zo0]; · iexact Zo0
    isplitl [Zo1]; · iexact Zo1
    isplitl [Zo2]; · iexact Zo2
    isplitl [Zt0]; · iexact Zt0
    isplitl [Zt1]; · iexact Zt1
    isplitl [Zt2]; · iexact Zt2
    isplitl [ZO0]; · iexact ZO0
    isplitl [ZO1]; · iexact ZO1
    isplitl [ZO2]; · iexact ZO2
    isplitl [ZT0]; · iexact ZT0
    isplitl [ZT1]; · iexact ZT1
    isplitl [ZT2]; · iexact ZT2
    isplitl [Hx]; · iexact Hx
    isplitl [Hw]; · iexact Hw
    isplitl [HKV]; · iexact HKV
    isplitl [Lq0]; · iexact Lq0
    isplitl [Lq1]; · iexact Lq1
    isplitl [Lq2]; · iexact Lq2
    isplitl [Lq3]; · iexact Lq3
    isplitl [Pa0]; · iexact Pa0
    isplitl [Pa1]; · iexact Pa1
    isplitl [Pa2]; · iexact Pa2
    isplitl [Po0]; · iexact Po0
    isplitl [Po1]; · iexact Po1
    isplitl [Po2]; · iexact Po2
    isplitl [Pt0]; · iexact Pt0
    isplitl [Pt1]; · iexact Pt1
    isplitl [Pt2]; · iexact Pt2
    isplitl [Hs]; · iexact Hs
    iexact Ho
  iapply (runs_eq ?_) $$ Hk
  rfl

end Cert.RingAttn

end
-- ==== Proof.Body.lean ====
/-
The body whole: its buffers cut into the pieces it hands round, its run, and the pieces put together again.
-/
module

public import proofs.«01_k».proof.Proof.Chain
public import Idealize.ShloMosaic.Lib.Ring

@[expose] public section

set_option maxRecDepth 16384

noncomputable section

namespace Cert.RingAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CK → ℕ)

/-! ## The buffers and their pieces -/

/-- A buffer of device `c` at any contents. -/
def scr (c : Dev nD) (b : Ref sig .tc) : sProp 𝕄 := iprop(∃ f : Buf (Elt F) ((c : Thread nD τ).loc b), ((c : Thread nD τ).loc b) ↦{fullShare} f)

theorem pieces_disjoint {s : Shape} {e : EltTy} (M : Memref sig .tc .vmem s e) {B : Type} (R : B → Rect s)
    (hd : ∀ b b', b ≠ b' → Disjoint (R b).set (R b').set) (b b' : B) (h : b ≠ b') :
    Disjoint ((R b).set.map M.view.emb) ((R b').set.map M.view.emb) := (Finset.disjoint_map _).mpr (hd b b' h)
theorem pieces_cover {s : Shape} {e : EltTy} (M : Memref sig .tc .vmem s e) {B : Type} [Fintype B] (R : B → Rect s)
    (hc : Finset.univ.biUnion (fun b => (R b).set) = Finset.univ) (hM : Finset.univ.map M.view.emb = Finset.univ) :
    (Finset.univ.biUnion fun b => (R b).set.map M.view.emb) = Finset.univ := by
  ext i
  simp only [Finset.mem_biUnion, Finset.mem_univ, true_and, iff_true]
  obtain ⟨x, -, hx⟩ := Finset.mem_map.mp (hM ▸ Finset.mem_univ i)
  obtain ⟨b, -, hb⟩ := Finset.mem_biUnion.mp (hc ▸ Finset.mem_univ x)
  exact ⟨b, Finset.mem_map.mpr ⟨x, hb, hx⟩⟩

theorem q_set (b : Dev nD) : (qBlk b).view.set = (qR b).set.map qM.view.emb := View.set_slice _ _
theorem o_set (M : Memref sig .tc .vmem S3x256x1024 .bf16) (s : Fin 3) : (oSl M s).view.set = (oSR s).set.map M.view.emb := by
  rw [Memref.set_view_squeeze]; exact View.set_slice _ _
theorem t_set (M : Memref sig .tc .vmem S3x256x128 .f32) (s : Fin 3) : (tSl M s).view.set = (tSR s).set.map M.view.emb := by
  rw [Memref.set_view_squeeze]; exact View.set_slice _ _

theorem q_disj : ∀ b b' : Dev nD, b ≠ b' → Disjoint ((qR b).set) ((qR b').set) :=
  Ring.lead_disjoint (s := S1024x1024) (NB := 4) (0 : Fin 2) 256 (fun b => rowOf b) S256x1024.size row_inb (fun _ => rfl) rfl
theorem q_cover : (Finset.univ.biUnion fun b : Dev nD => (qR b).set) = Finset.univ :=
  Ring.lead_cover (s := S1024x1024) (NB := 4) (0 : Fin 2) 256 (fun b => rowOf b) S256x1024.size row_inb (fun _ => rfl) (by decide) rfl (by decide) rfl
theorem o_disj : ∀ b b' : Fin 3, b ≠ b' → Disjoint ((oSR b).set) ((oSR b').set) :=
  Ring.lead_disjoint (s := S3x256x1024) (NB := 3) (0 : Fin 3) 1 (fun b => ![b.val, 0, 0]) S1x256x1024.size oS_inb (by decide) rfl
theorem o_cover : (Finset.univ.biUnion fun b : Fin 3 => (oSR b).set) = Finset.univ :=
  Ring.lead_cover (s := S3x256x1024) (NB := 3) (0 : Fin 3) 1 (fun b => ![b.val, 0, 0]) S1x256x1024.size oS_inb (by decide) (by decide) rfl (by decide) rfl
theorem t_disj : ∀ b b' : Fin 3, b ≠ b' → Disjoint ((tSR b).set) ((tSR b').set) :=
  Ring.lead_disjoint (s := S3x256x128) (NB := 3) (0 : Fin 3) 1 (fun b => ![b.val, 0, 0]) S1x256x128.size tS_inb (by decide) rfl
theorem t_cover : (Finset.univ.biUnion fun b : Fin 3 => (tSR b).set) = Finset.univ :=
  Ring.lead_cover (s := S3x256x128) (NB := 3) (0 : Fin 3) 1 (fun b => ![b.val, 0, 0]) S1x256x128.size tS_inb (by decide) (by decide) rfl (by decide) rfl

/-- The whole buffer `b` as the memref over it covers it. -/
theorem emb_whole (b : Ref sig .tc) : Finset.univ.map (Memref.whole b).view.emb = Finset.univ := View.set_whole b

theorem around (c : Dev nD) (Φ : Dev nD → sProp 𝕄) : bigSep Finset.univ Φ = iprop(Φ c ∗ Φ (rot c 3) ∗ Φ (rot c 2) ∗ Φ (rot c 1)) :=
  bigSep_univ_eq_bigSepL [c, rot c 3, rot c 2, rot c 1] (by revert c; decide +kernel) (by revert c; decide +kernel) Φ
theorem fin3 (Φ : Fin 3 → sProp 𝕄) : bigSep Finset.univ Φ = iprop(Φ 0 ∗ Φ 1 ∗ Φ 2) :=
  bigSep_univ_eq_bigSepL [0, 1, 2] (by decide) (by decide) Φ

section Cut
variable {s : Shape} {e : EltTy} {B : Type} [Fintype B] [DecidableEq B] (c : Dev nD) (M : Memref sig .tc .vmem s e) (R : B → Rect s)
    (hdis : ∀ b b', b ≠ b' → Disjoint (R b).set (R b').set)
    (hcov : Finset.univ.biUnion (fun b => (R b).set) = Finset.univ) (hM : Finset.univ.map M.view.emb = Finset.univ)
include hdis hcov hM
/-- A buffer held whole, held piece by piece; -/
theorem cut (P : B → sProp 𝕄) (hP : ∀ b, P b = iprop(∃ f, M.view.loc (c : Thread nD τ) ↦[(R b).set.map M.view.emb]{fullShare} f)) :
    iprop(∃ f, M.view.loc (c : Thread nD τ) ↦{fullShare} f) ⊢ bigSep Finset.univ P := by
  let I : B → Finset (Idx (M.view.loc (c : Thread nD τ))) := fun b => (R b).set.map M.view.emb
  have h1 : ∀ b b', b ≠ b' → Disjoint (I b) (I b') := pieces_disjoint M R hdis
  have h2 : Finset.univ.biUnion I = Finset.univ := pieces_cover M R hcov hM
  have h3 (f : Buf (Elt F) (M.view.loc (c : Thread nD τ))) : (M.view.loc (c : Thread nD τ) ↦{fullShare} f : sProp 𝕄)
      ⊢ bigSep Finset.univ fun b => M.view.loc (c : Thread nD τ) ↦[(R b).set.map M.view.emb]{fullShare} f := Entails.of_eq (Ring.pointsTo_blocks I h1 h2 f)
  have h4 (f : Buf (Elt F) (M.view.loc (c : Thread nD τ))) :
      (bigSep Finset.univ fun b => M.view.loc (c : Thread nD τ) ↦[(R b).set.map M.view.emb]{fullShare} f : sProp 𝕄) ⊢ bigSep Finset.univ P :=
    bigSep_mono fun b _ => by
      rw [hP]
      show (M.view.loc (c : Thread nD τ) ↦[(R b).set.map M.view.emb]{fullShare} f : sProp 𝕄)
        ⊢ iprop(∃ f, M.view.loc (c : Thread nD τ) ↦[(R b).set.map M.view.emb]{fullShare} f)
      iintro H; iexists f; iexact H
  iintro ⟨%f, H⟩
  iapply ((h3 f).trans (h4 f)) $$ H
/-- and back. -/
theorem uncut (P : B → sProp 𝕄) (hP : ∀ b, P b = iprop(∃ f, M.view.loc (c : Thread nD τ) ↦[(R b).set.map M.view.emb]{fullShare} f)) :
    bigSep Finset.univ P ⊢ iprop(∃ f, M.view.loc (c : Thread nD τ) ↦{fullShare} f) := by
  let I : B → Finset (Idx (M.view.loc (c : Thread nD τ))) := fun b => (R b).set.map M.view.emb
  have h1 : ∀ b b', b ≠ b' → Disjoint (I b) (I b') := pieces_disjoint M R hdis
  have h2 : Finset.univ.biUnion I = Finset.univ := pieces_cover M R hcov hM
  have f₀ : Buf (Elt F) (M.view.loc (c : Thread nD τ)) := fun _ => default
  rw [bigSep_congr (fun b _ => hP b)]
  exact Ring.pointsTo_blocks_join_exists I h1 h2 f₀
end Cut

theorem qAny_eq (c b : Dev nD) : qAny (F := F) c b = iprop(∃ f, qM.view.loc (c : Thread nD τ) ↦[(qR b).set.map qM.view.emb]{fullShare} f) := by
  unfold qAny; rw [q_set]
theorem oAny_eq (c : Dev nD) (M : Memref sig .tc .vmem S3x256x1024 .bf16) (s : Fin 3) :
    oAny (F := F) c M s = iprop(∃ f, M.view.loc (c : Thread nD τ) ↦[(oSR s).set.map M.view.emb]{fullShare} f) := by
  unfold oAny oPts; rw [o_set]
theorem tAny_eq (c : Dev nD) (M : Memref sig .tc .vmem S3x256x128 .f32) (s : Fin 3) :
    tAny (F := F) c M s = iprop(∃ f, M.view.loc (c : Thread nD τ) ↦[(tSR s).set.map M.view.emb]{fullShare} f) := by
  unfold tAny tPts; rw [t_set]

theorem q_open (c : Dev nD) : scr (F := F) c cc0_scratch0 ⊢ iprop(qAny c c ∗ qAny c (rot c 3) ∗ qAny c (rot c 2) ∗ qAny c (rot c 1)) := by
  rw [← around c]; exact cut c qM qR q_disj q_cover (emb_whole _) _ (qAny_eq c)
theorem q_shut (c : Dev nD) : iprop(qAny c c ∗ qAny c (rot c 3) ∗ qAny c (rot c 2) ∗ qAny c (rot c 1)) ⊢ scr (F := F) c cc0_scratch0 := by
  rw [← around c]; exact uncut c qM qR q_disj q_cover (emb_whole _) _ (qAny_eq c)
theorem ps_open (c : Dev nD) : scr (F := F) c cc0_scratch3 ⊢ iprop(oAny c psM 0 ∗ oAny c psM 1 ∗ oAny c psM 2) := by
  rw [← fin3]; exact cut c psM oSR o_disj o_cover (emb_whole _) _ (oAny_eq c psM)
theorem ps_shut (c : Dev nD) : iprop(oAny c psM 0 ∗ oAny c psM 1 ∗ oAny c psM 2) ⊢ scr (F := F) c cc0_scratch3 := by
  rw [← fin3]; exact uncut c psM oSR o_disj o_cover (emb_whole _) _ (oAny_eq c psM)
theorem ss_open (c : Dev nD) : scr (F := F) c cc0_scratch4 ⊢ iprop(tAny c ssM 0 ∗ tAny c ssM 1 ∗ tAny c ssM 2) := by
  rw [← fin3]; exact cut c ssM tSR t_disj t_cover (emb_whole _) _ (tAny_eq c ssM)
theorem ss_shut (c : Dev nD) : iprop(tAny c ssM 0 ∗ tAny c ssM 1 ∗ tAny c ssM 2) ⊢ scr (F := F) c cc0_scratch4 := by
  rw [← fin3]; exact uncut c ssM tSR t_disj t_cover (emb_whole _) _ (tAny_eq c ssM)
theorem pr_open (c : Dev nD) : scr (F := F) c cc0_scratch5 ⊢ iprop(oAny c prM 0 ∗ oAny c prM 1 ∗ oAny c prM 2) := by
  rw [← fin3]; exact cut c prM oSR o_disj o_cover (emb_whole _) _ (oAny_eq c prM)
theorem pr_shut (c : Dev nD) : iprop(oAny c prM 0 ∗ oAny c prM 1 ∗ oAny c prM 2) ⊢ scr (F := F) c cc0_scratch5 := by
  rw [← fin3]; exact uncut c prM oSR o_disj o_cover (emb_whole _) _ (oAny_eq c prM)
theorem sr_open (c : Dev nD) : scr (F := F) c cc0_scratch6 ⊢ iprop(tAny c srM 0 ∗ tAny c srM 1 ∗ tAny c srM 2) := by
  rw [← fin3]; exact cut c srM tSR t_disj t_cover (emb_whole _) _ (tAny_eq c srM)
theorem sr_shut (c : Dev nD) : iprop(tAny c srM 0 ∗ tAny c srM 1 ∗ tAny c srM 2) ⊢ scr (F := F) c cc0_scratch6 := by
  rw [← fin3]; exact uncut c srM tSR t_disj t_cover (emb_whole _) _ (tAny_eq c srM)

/-- A piece with nothing in it yet; a piece whatever it holds. -/
theorem filled_nil {s : Shape} {e : EltTy} (c : Dev nD) (M : Memref sig .tc .vmem s e) (S : Finset (Idx (M.view.loc (c : Thread nD τ)))) {N : ℕ}
    (off : Fin N → Fin s.rank → ℕ) (size : Fin s.rank → ℕ) (inb : ∀ i a, off i a + size a ≤ s.size a) (w : Fin N → Vec F ⟨s.rank, size⟩ e) :
    iprop(∃ f, M.view.loc (c : Thread nD τ) ↦[S]{fullShare} f) ⊢ (filled c M S off size inb 0 w : sProp 𝕄) := by
  unfold filled
  iintro ⟨%f, H⟩
  iexists f
  isplitr
  · ipureintro; intro i h; exact absurd h (Nat.not_lt_zero _)
  · iexact H
theorem filled_any {s : Shape} {e : EltTy} (c : Dev nD) (M : Memref sig .tc .vmem s e) (S : Finset (Idx (M.view.loc (c : Thread nD τ)))) {N n : ℕ}
    (off : Fin N → Fin s.rank → ℕ) (size : Fin s.rank → ℕ) (inb : ∀ i a, off i a + size a ≤ s.size a) (w : Fin N → Vec F ⟨s.rank, size⟩ e) :
    (filled c M S off size inb n w : sProp 𝕄) ⊢ iprop(∃ f, M.view.loc (c : Thread nD τ) ↦[S]{fullShare} f) := by
  unfold filled
  iintro ⟨%f, -, H⟩
  iexists f
  iexact H
theorem o_nil (c : Dev nD) (M : Memref sig .tc .vmem S3x256x1024 .bf16) (s : Fin 3) (w : Fin 8 → Vec F S1x256x128 .bf16) : oAny c M s ⊢ oHasN 0 c M s w :=
  filled_nil c M (oSl M s).view.set _ _ _ w
theorem t_nil (c : Dev nD) (M : Memref sig .tc .vmem S3x256x128 .f32) (s : Fin 3) (w : Fin 2 → Vec F S1x256x8 .f32) : tAny c M s ⊢ tHasN 0 c M s w :=
  filled_nil c M (tSl M s).view.set _ _ _ w
theorem o_any (c : Dev nD) (M : Memref sig .tc .vmem S3x256x1024 .bf16) (s : Fin 3) (w : Fin 8 → Vec F S1x256x128 .bf16) : oHas c M s w ⊢ oAny c M s :=
  filled_any c M (oSl M s).view.set _ _ _ w
theorem t_any (c : Dev nD) (M : Memref sig .tc .vmem S3x256x128 .f32) (s : Fin 3) (w : Fin 2 → Vec F S1x256x8 .f32) : tHas c M s w ⊢ tAny c M s :=
  filled_any c M (tSl M s).view.set _ _ _ w
theorem mo_nil (c : Dev nD) (w : Fin 8 → Vec F S256x128 .f32) : scr c cc0_scratch11 ⊢ moHas 0 c w := filled_nil c moM Finset.univ _ _ _ w
theorem ms_nil (c : Dev nD) (w : Fin 2 → Vec F S256x8 .f32) : scr c cc0_scratch12 ⊢ msHas 0 c w := filled_nil c msM Finset.univ _ _ _ w
theorem mo_any (c : Dev nD) (w : Fin 8 → Vec F S256x128 .f32) : moHas 8 c w ⊢ scr c cc0_scratch11 := filled_any c moM Finset.univ _ _ _ w
theorem ms_any (c : Dev nD) (w : Fin 2 → Vec F S256x8 .f32) : msHas 2 c w ⊢ scr c cc0_scratch12 := filled_any c msM Finset.univ _ _ _ w
theorem q_any (c b : Dev nD) (X : FVec F S256x1024 .bf16) : qHas c b fullShare X ⊢ qAny c b := by
  unfold qHas owns qAny
  iintro ⟨%f, -, H⟩
  iexists f
  iexact H
theorem q_join (c b : Dev nD) (X : FVec F S256x1024 .bf16) : iprop(qHas c b fullShare.left X ∗ qHas c b fullShare.right X) ⊢ qAny c b :=
  BI.Entails.trans (show iprop(qHas c b fullShare.left X ∗ qHas c b fullShare.right X) ⊢ qHas c b fullShare X from (owns_halves _ _ _ _).2) (q_any c b X)

/-- All seven buffers of a device that are no staging buffer. -/
def bufs (c : Dev nD) : sProp 𝕄 := iprop(scr c cc0_scratch0 ∗ scr c cc0_scratch3 ∗ scr c cc0_scratch4 ∗ scr c cc0_scratch5 ∗ scr c cc0_scratch6
  ∗ scr c cc0_scratch11 ∗ scr c cc0_scratch12)

/-- What device `c` hands over with its three signals, in its own terms. -/
theorem bar_give0 (c : Dev nD) : iprop(oAny c prM 0 ∗ tAny c srM 0) ⊢ (barPay (rot c ((0 : Fin 3).val + 1)) 0 : sProp 𝕄) := by
  show _ ⊢ iprop(oAny (rot (rot c 1) 3) prM 0 ∗ tAny (rot (rot c 1) 3) srM 0)
  rw [rot_rot, rot_four]
theorem bar_give1 (c : Dev nD) : iprop(oAny c prM 1 ∗ tAny c srM 1) ⊢ (barPay (rot c ((1 : Fin 3).val + 1)) 1 : sProp 𝕄) := by
  show _ ⊢ iprop(oAny (rot (rot c 2) 2) prM 1 ∗ tAny (rot (rot c 2) 2) srM 1)
  rw [rot_rot, rot_four]
theorem bar_give2 (c : Dev nD) : iprop(oAny c prM 2 ∗ tAny c srM 2 ∗ qAny c (rot c 3) ∗ qAny c (rot c 2) ∗ qAny c (rot c 1))
    ⊢ (barPay (rot c ((2 : Fin 3).val + 1)) 2 : sProp 𝕄) := by
  show _ ⊢ iprop(oAny (rot (rot c 3) 1) prM 2 ∗ tAny (rot (rot c 3) 1) srM 2
    ∗ qAny (rot (rot c 3) 1) (rot (rot c 3) 4) ∗ qAny (rot (rot c 3) 1) (rot (rot c 3) 3) ∗ qAny (rot (rot c 3) 1) (rot (rot c 3) 2))
  rw [rot_rot, rot_rot, rot_rot, rot_rot, rot_four, rot_mod, rot_mod, rot_mod]

/-- What device `c` holds of the cells when its body starts. -/
def hold (c : Dev nD) : sProp 𝕄 := iprop(tok (rot c ((0 : Fin 3).val + 1)) none 0
    ∗ tok (rot c ((1 : Fin 3).val + 1)) none 1
    ∗ tok (rot c ((2 : Fin 3).val + 1)) none 2
    ∗ ready c none
    ∗ ready c (some (1, 0))
    ∗ ready c (some (1, 1))
    ∗ ready c (some (1, 2))
    ∗ ready c (some (4, 0))
    ∗ ready c (some (4, 1))
    ∗ ready c (some (4, 2))
    ∗ ready c (some (5, 0))
    ∗ ready c (some (5, 1))
    ∗ ready c (some (5, 2))
    ∗ goQ c 0
    ∗ goQ c 1
    ∗ goQ c 2
    ∗ goO c 0
    ∗ goO c 1
    ∗ goO c 2
    ∗ goT c 0
    ∗ goT c 1
    ∗ goT c 2)

theorem start36_intro (c : Dev nD) :
    iprop(owesE c (Od c 0) ∗ hold c ∗ bufs c ∗ (xM.view.loc (c : Thread nD τ) ↦{fullShare} xs m c)
        ∗ (wqM.view.loc (c : Thread nD τ) ↦{fullShare} wqs m c) ∗ kv c (ks m c) (vs m c)) ⊢ start36 m c := by
  unfold start36 hold bufs
  iintro ⟨HO, ⟨H0, H1, H2, H3, H4, H5, H6, H7, H8, H9, H10, H11, H12, H13, H14, H15, H16, H17, H18, H19, H20, H21⟩, ⟨B0, B3, B4, B5, B6, B11, B12⟩, Hx, Hw, HKV⟩
  ihave B0 := (q_open c) $$ B0; icases B0 with ⟨Q0, Q3, Q2, Q1⟩
  ihave B3 := (ps_open c) $$ B3; icases B3 with ⟨Po0, Po1, Po2⟩
  ihave B4 := (ss_open c) $$ B4; icases B4 with ⟨Pt0, Pt1, Pt2⟩
  ihave B5 := (pr_open c) $$ B5; icases B5 with ⟨Ro0, Ro1, Ro2⟩
  ihave B6 := (sr_open c) $$ B6; icases B6 with ⟨Rt0, Rt1, Rt2⟩
  isplitl [HO]; · iexact HO
  isplitl [H0]; · iexact H0
  isplitl [H1]; · iexact H1
  isplitl [H2]; · iexact H2
  isplitl [Ro0 Rt0]
  · iapply (bar_give0 c); isplitl [Ro0]; · iexact Ro0
    iexact Rt0
  isplitl [Ro1 Rt1]
  · iapply (bar_give1 c); isplitl [Ro1]; · iexact Ro1
    iexact Rt1
  isplitl [Ro2 Rt2 Q3 Q2 Q1]
  · iapply (bar_give2 c)
    isplitl [Ro2]; · iexact Ro2
    isplitl [Rt2]; · iexact Rt2
    isplitl [Q3]; · iexact Q3
    isplitl [Q2]; · iexact Q2
    iexact Q1
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [Hx]; · iexact Hx
  isplitl [Hw]; · iexact Hw
  isplitl [HKV]; · iexact HKV
  isplitl [Q0]; · iexact Q0
  isplitl [Po0]; · iapply (o_nil c psM 0 _); iexact Po0
  isplitl [Po1]; · iapply (o_nil c psM 1 _); iexact Po1
  isplitl [Po2]; · iapply (o_nil c psM 2 _); iexact Po2
  isplitl [Pt0]; · iapply (t_nil c ssM 0 _); iexact Pt0
  isplitl [Pt1]; · iapply (t_nil c ssM 1 _); iexact Pt1
  isplitl [Pt2]; · iapply (t_nil c ssM 2 _); iexact Pt2
  isplitl [B11]; · iapply (mo_nil c _); iexact B11
  iapply (ms_nil c _); iexact B12

/-- Every cell of device `c` closed at zero. -/
def shut (c : Dev nD) : sProp 𝕄 := iprop(done c none
    ∗ done c (some (0, 0))
    ∗ done c (some (0, 1))
    ∗ done c (some (0, 2))
    ∗ done c (some (1, 0))
    ∗ done c (some (1, 1))
    ∗ done c (some (1, 2))
    ∗ done c (some (2, 0))
    ∗ done c (some (2, 1))
    ∗ done c (some (2, 2))
    ∗ done c (some (3, 0))
    ∗ done c (some (3, 1))
    ∗ done c (some (3, 2))
    ∗ done c (some (4, 0))
    ∗ done c (some (4, 1))
    ∗ done c (some (4, 2))
    ∗ done c (some (5, 0))
    ∗ done c (some (5, 1))
    ∗ done c (some (5, 2)))

theorem pay_q0 (c : Dev nD) : pay m c (some (0, 0)) 0 ⊢ qHas c c fullShare.right (qv m c) := by
  show qHas c (rot c 4) fullShare.right (qv m (rot c 4)) ⊢ _
  rw [rot_four]
theorem pay_q1 (c : Dev nD) : pay m c (some (0, 1)) 0 ⊢ qHas c (rot c 3) fullShare.right (qv m (rot c 3)) := BI.Entails.refl _
theorem pay_q2 (c : Dev nD) : pay m c (some (0, 2)) 0 ⊢ qHas c (rot c 2) fullShare.right (qv m (rot c 2)) := BI.Entails.refl _
theorem pay_po (c : Dev nD) (s : Fin 3) : pay m c (some (2, s)) 0 ⊢ oAny c psM s := BI.Entails.refl _
theorem pay_pt (c : Dev nD) (s : Fin 3) : pay m c (some (3, s)) 0 ⊢ tAny c ssM s := BI.Entails.refl _

theorem end36_elim (c : Dev nD) :
    end36 m c ⊢ iprop(owesE c 0 ∗ shut c ∗ bufs c ∗ (xM.view.loc (c : Thread nD τ) ↦{fullShare} xs m c)
        ∗ (wqM.view.loc (c : Thread nD τ) ↦{fullShare} wqs m c) ∗ kv c (ks m c) (vs m c)) := by
  unfold end36 shut bufs stats outs
  iintro ⟨HO, D0, D1, D2, D3, D4, D5, D6, D7, D8, D9, D10, D11, D12, D13, D14, D15, D16, D17, D18, Hx, Hw, HKV, L0, L1, L2, L3, R0, R1, R2, Po0, Po1, Po2, Pt0, Pt1, Pt2, ⟨Ms, St0, St1, St2⟩, ⟨Mo, So0, So1, So2⟩⟩
  isplitl [HO]; · iexact HO
  isplitl [D0 D1 D2 D3 D4 D5 D6 D7 D8 D9 D10 D11 D12 D13 D14 D15 D16 D17 D18]
  · isplitl [D0]; · iexact D0
    isplitl [D1]; · iexact D1
    isplitl [D2]; · iexact D2
    isplitl [D3]; · iexact D3
    isplitl [D4]; · iexact D4
    isplitl [D5]; · iexact D5
    isplitl [D6]; · iexact D6
    isplitl [D7]; · iexact D7
    isplitl [D8]; · iexact D8
    isplitl [D9]; · iexact D9
    isplitl [D10]; · iexact D10
    isplitl [D11]; · iexact D11
    isplitl [D12]; · iexact D12
    isplitl [D13]; · iexact D13
    isplitl [D14]; · iexact D14
    isplitl [D15]; · iexact D15
    isplitl [D16]; · iexact D16
    isplitl [D17]; · iexact D17
    iexact D18
  isplitr [Hx Hw HKV]
  · isplitl [L0 L1 L2 L3 R0 R1 R2]
    · iapply (q_shut c)
      isplitl [L0 R0]
      · iapply (q_join c c _); isplitl [L0]; · iexact L0
        iapply (pay_q0 m c); iexact R0
      isplitl [L1 R1]
      · iapply (q_join c _ _); isplitl [L1]; · iexact L1
        iapply (pay_q1 m c); iexact R1
      isplitl [L2 R2]
      · iapply (q_join c _ _); isplitl [L2]; · iexact L2
        iapply (pay_q2 m c); iexact R2
      iapply (q_any c _ _); iexact L3
    isplitl [Po0 Po1 Po2]
    · iapply (ps_shut c)
      isplitl [Po0]; · iapply (pay_po m c 0); iexact Po0
      isplitl [Po1]; · iapply (pay_po m c 1); iexact Po1
      iapply (pay_po m c 2); iexact Po2
    isplitl [Pt0 Pt1 Pt2]
    · iapply (ss_shut c)
      isplitl [Pt0]; · iapply (pay_pt m c 0); iexact Pt0
      isplitl [Pt1]; · iapply (pay_pt m c 1); iexact Pt1
      iapply (pay_pt m c 2); iexact Pt2
    isplitl [So0 So1 So2]
    · iapply (pr_shut c)
      isplitl [So0]; · iapply (o_any c prM 0 _); iexact So0
      isplitl [So1]; · iapply (o_any c prM 1 _); iexact So1
      iapply (o_any c prM 2 _); iexact So2
    isplitl [St0 St1 St2]
    · iapply (sr_shut c)
      isplitl [St0]; · iapply (t_any c srM 0 _); iexact St0
      isplitl [St1]; · iapply (t_any c srM 1 _); iexact St1
      iapply (t_any c srM 2 _); iexact St2
    isplitl [Mo]; · iapply (mo_any c _); iexact Mo
    iapply (ms_any c _); iexact Ms
  isplitl [Hx]; · iexact Hx
  isplitl [Hw]; · iexact Hw
  iexact HKV

/-! ## The run -/

theorem load_wo (f : (cc0_stg2_0 : Ref sig .tc).ty.Contents (Elt F)) :
    (woM : Memref sig .tc .vmem S1024x1024 .bf16).view.readAt (Elt F) (Rect.unit (s := S1024x1024) ![0, 0] S1024x1024.size inb_S1024x1024_S1024x1024_0_0).toLoadRect f = f :=
  Memref.readAt_unit_zero (Elt F) cc0_stg2_0 zz _ f
theorem store_out (f w : (cc0_stg5_0 : Ref sig .tc).ty.Contents (Elt F)) :
    ((outM : Memref sig .tc .vmem S256x1024 .f32).access (Rect.unit (s := S256x1024) ![0, 0] S256x1024.size inb_S256x1024_S256x1024_0_0) : View sig .tc _ _ _).write (Elt F) f w Finset.univ = w :=
  Memref.write_access_unit_zero_univ (Elt F) cc0_stg5_0 zz _ f w

theorem last_eq (c : Dev nD) (wo : Vec F S1024x1024 .bf16) (h : wo = wos m c) :
    k0_pay1 (hd (sOwn m c) (sGot m c) (oOwn m c) (oGot m c) 0) (hd (sOwn m c) (sGot m c) (oOwn m c) (oGot m c) 1) (hd (sOwn m c) (sGot m c) (oOwn m c) (oGot m c) 2)
      (hd (sOwn m c) (sGot m c) (oOwn m c) (oGot m c) 3) (hd (sOwn m c) (sGot m c) (oOwn m c) (oGot m c) 4) (hd (sOwn m c) (sGot m c) (oOwn m c) (oGot m c) 5)
      (hd (sOwn m c) (sGot m c) (oOwn m c) (oGot m c) 6) (b3 (sOwn m c) (sGot m c) (oOwn m c) (oGot m c) 7) (bc (lst (sOwn m c) (sGot m c)) 7) wo = outv m c := by
  rw [h]; rfl

/-- The body at device `c`. -/
theorem sound_body (c : Dev nD) (Kt : PUnit → sProp 𝕄) :
    iprop(env m K ∗ owesE c (Od c 0) ∗ hold c ∗ bufs c ∗ (xM.view.loc (c : Thread nD τ) ↦{fullShare} xs m c)
        ∗ (wqM.view.loc (c : Thread nD τ) ↦{fullShare} wqs m c) ∗ (woM.view.loc (c : Thread nD τ) ↦{fullShare} wos m c) ∗ kv c (ks m c) (vs m c)
        ∗ (∃ f, outM.view.loc (c : Thread nD τ) ↦{fullShare} f)
        ∗ ((owesE c 0 ∗ shut c ∗ bufs c ∗ (xM.view.loc (c : Thread nD τ) ↦{fullShare} xs m c)
          ∗ (wqM.view.loc (c : Thread nD τ) ↦{fullShare} wqs m c) ∗ (woM.view.loc (c : Thread nD τ) ↦{fullShare} wos m c) ∗ kv c (ks m c) (vs m c)
          ∗ (outM.view.loc (c : Thread nD τ) ↦{fullShare} outv m c)) -∗ Kt ⟨⟩))
      ⊢ runs c (At (cc0__body (F := F))) Kt := by
  rw [cc0__body_eq_skeleton]
  unfold At cc0__body_skel
  iintro ⟨#HE, HO, HH, HB, Hx, Hw, Hwo, HKV, ⟨%f, Hout⟩, Hk⟩
  iapply runs_bind
  iapply (part36_spec m K c _)
  isplitr; · iexact HE
  isplitl [HO HH HB Hx Hw HKV]
  · iapply (start36_intro m c)
    isplitl [HO]; · iexact HO
    isplitl [HH]; · iexact HH
    isplitl [HB]; · iexact HB
    isplitl [Hx]; · iexact Hx
    isplitl [Hw]; · iexact Hw
    iexact HKV
  iintro HX
  ihave HX := (end36_elim m c) $$ HX
  icases HX with ⟨HO, HZ, HB, Hx, Hw, HKV⟩
  dsimp only
  simp only [Prog.lift, Prog.bind_op, Prog.bind_ret, Prog.pure_eq_ret]
  iapply (wp_load 𝒱₀ (c : Thread nD τ) none Set.univ (m := woM) (Finset.subset_univ _)) $$ Hwo; iintro Hwo
  iapply (wp_load 𝒱₀ (c : Thread nD τ) none Set.univ (m := outM) (Finset.subset_univ _)) $$ Hout; iintro Hout
  iapply (wp_store 𝒱₀ (c : Thread nD τ) none Set.univ (m := outM) (r := Rect.unit (s := S256x1024) ![0, 0] S256x1024.size inb_S256x1024_S256x1024_0_0) (Mk := Finset.univ) (Finset.subset_univ _)) $$ Hout; iintro Hout
  rw [store_out, last_eq m c _ (load_wo _)]
  iapply runs_ret
  iapply Hk
  isplitl [HO]; · iexact HO
  isplitl [HZ]; · iexact HZ
  isplitl [HB]; · iexact HB
  isplitl [Hx]; · iexact Hx
  isplitl [Hw]; · iexact Hw
  isplitl [Hwo]; · iexact Hwo
  isplitl [HKV]; · iexact HKV
  iexact Hout

end Cert.RingAttn

end
-- ==== Proof.Launch.lean ====
/-
The launch: every device's cells set up together, the tokens dealt to the devices that pay with them, and the run.
-/
module

public import proofs.«01_k».proof.Proof.Body
public import Idealize.ShloMosaic.Lib.Pipeline.Launch
public import Idealize.ShloMosaic.Lib.Pipeline.CollectiveSegs
public import Idealize.ShloMosaic.Lib.Tactic

@[expose] public section

set_option maxRecDepth 16384

noncomputable section

namespace Cert.RingAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The proof data of the one pallas_call -/

/-- What device `c` starts from beside its buffers: the cells' invariants at some names, and its positions, credits and tokens. -/
def start (c : Dev nD) : sProp 𝕄 := iprop((∃ K, env m K) ∗ hold c)
def Φ₀ (c : Dev nD) : sProp 𝕄 := iprop(start m c ∗ bufs c)
/-- What it ends with: every cell closed at zero. -/
def Φ₁ (c : Dev nD) : sProp 𝕄 := iprop(shut c ∗ bufs c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xs m c
    | ⟨1, _⟩ => wqs m c
    | ⟨2, _⟩ => wos m c
    | ⟨3, _⟩ => ks m c
    | ⟨4, _⟩ => vs m c
    | ⟨5, _⟩ => outv m c
  Φ t := match t with
    | ⟨0, _⟩ => Φ₀ m c
    | ⟨_ + 1, _⟩ => Φ₁ c
  q _ := fullShare
  owed t := match t with
    | ⟨0, _⟩ => Od c 0
    | ⟨_ + 1, _⟩ => 0

theorem fetched (w : Fin 6) (hw : w ≠ 5) (t : Fin cfg0.N) : (cfg0.win w).fetch t = true := by
  rw [fin_N0 t]; revert w; decide

theorem owns_whole_any (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer of device `c` holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem stg_elim (c : Dev nD) (b : Ref sig .tc) (X Y : b.ty.Contents (Elt F)) (h : X = Y) : stg c b X ⊢ (((c : Thread nD τ).loc b) ↦{fullShare} Y : sProp 𝕄) := by
  subst h
  iintro ⟨%f, %hf, H⟩
  subst hf
  iexact H
theorem stg_intro (c : Dev nD) (b : Ref sig .tc) (X : b.ty.Contents (Elt F)) : (((c : Thread nD τ).loc b) ↦{fullShare} X : sProp 𝕄) ⊢ stg c b X := by
  iintro H
  iexists X
  isplitr
  · ipureintro; rfl
  · iexact H

section Body

def bodyPre (c : Dev nD) : sProp 𝕄 :=
  iprop(Φ₀ m c ∗ (dats m ρ 0 c).owesAt () t0_0.castSucc
    ∗ (∃ d, stg c cc0_stg0_0 ((dats m ρ 0 c).before (0 : Fin 6) t0_0 d))
    ∗ (∃ d, stg c cc0_stg1_0 ((dats m ρ 0 c).before (1 : Fin 6) t0_0 d))
    ∗ (∃ d, stg c cc0_stg2_0 ((dats m ρ 0 c).before (2 : Fin 6) t0_0 d))
    ∗ (∃ d, stg c cc0_stg3_0 ((dats m ρ 0 c).before (3 : Fin 6) t0_0 d))
    ∗ (∃ d, stg c cc0_stg4_0 ((dats m ρ 0 c).before (4 : Fin 6) t0_0 d))
    ∗ (∃ d, stg c cc0_stg5_0 ((dats m ρ 0 c).before (5 : Fin 6) t0_0 d)))

def bodyPost (c : Dev nD) : sProp 𝕄 :=
  iprop(Φ₁ c ∗ (dats m ρ 0 c).owesAt () t0_0.succ
    ∗ stg c cc0_stg0_0 (xs m c) ∗ stg c cc0_stg1_0 (wqs m c) ∗ stg c cc0_stg2_0 (wos m c) ∗ stg c cc0_stg3_0 (ks m c) ∗ stg c cc0_stg4_0 (vs m c)
    ∗ stg c cc0_stg5_0 (outv m c))

theorem before_0 (c : Dev nD) (d) : (dats m ρ 0 c).before (0 : Fin 6) t0_0 d = xs m c := by
  unfold Dat.before; rw [if_pos (fetched (0 : Fin 6) (by decide) t0_0)]; rfl
theorem before_1 (c : Dev nD) (d) : (dats m ρ 0 c).before (1 : Fin 6) t0_0 d = wqs m c := by
  unfold Dat.before; rw [if_pos (fetched (1 : Fin 6) (by decide) t0_0)]; rfl
theorem before_2 (c : Dev nD) (d) : (dats m ρ 0 c).before (2 : Fin 6) t0_0 d = wos m c := by
  unfold Dat.before; rw [if_pos (fetched (2 : Fin 6) (by decide) t0_0)]; rfl
theorem before_3 (c : Dev nD) (d) : (dats m ρ 0 c).before (3 : Fin 6) t0_0 d = ks m c := by
  unfold Dat.before; rw [if_pos (fetched (3 : Fin 6) (by decide) t0_0)]; rfl
theorem before_4 (c : Dev nD) (d) : (dats m ρ 0 c).before (4 : Fin 6) t0_0 d = vs m c := by
  unfold Dat.before; rw [if_pos (fetched (4 : Fin 6) (by decide) t0_0)]; rfl

theorem body_run (c : Dev nD) : bodyPre m ρ c ⊢ runs c (At (cc0__body (F := F))) (fun _ => bodyPost m ρ c) := by
  unfold bodyPre Φ₀ start
  iintro ⟨⟨⟨⟨%K, #HE⟩, HH⟩, HB⟩, Ho, ⟨%d0, S0⟩, ⟨%d1, S1⟩, ⟨%d2, S2⟩, ⟨%d3, S3⟩, ⟨%d4, S4⟩, ⟨%d5, S5⟩⟩
  unfold Dat.owesAt Pipeline.owesWithin
  icases Ho with ⟨%W, %hW, HO⟩
  icases S5 with ⟨%f5, -, S5⟩
  iapply (sound_body m K c (fun _ => bodyPost m ρ c))
  isplitr; · iexact HE
  isplitl [HO]; · unfold owesE; iexists W; iexact HO
  isplitl [HH]; · iexact HH
  isplitl [HB]; · iexact HB
  isplitl [S0]; · iapply (stg_elim c cc0_stg0_0 _ (xs m c) (before_0 m ρ c d0)); iexact S0
  isplitl [S1]; · iapply (stg_elim c cc0_stg1_0 _ (wqs m c) (before_1 m ρ c d1)); iexact S1
  isplitl [S2]; · iapply (stg_elim c cc0_stg2_0 _ (wos m c) (before_2 m ρ c d2)); iexact S2
  isplitl [S3 S4]
  · unfold kv
    isplitl [S3]; · iapply (stg_elim c cc0_stg3_0 _ (ks m c) (before_3 m ρ c d3)); iexact S3
    iapply (stg_elim c cc0_stg4_0 _ (vs m c) (before_4 m ρ c d4)); iexact S4
  isplitl [S5]; · iexists f5; iexact S5
  iintro ⟨HO, HZ, HB, S0, S1, S2, HKV, S5⟩
  unfold kv
  icases HKV with ⟨S3, S4⟩
  unfold bodyPost Φ₁ Dat.owesAt Pipeline.owesWithin owesE
  icases HO with ⟨%W', HO⟩
  isplitl [HZ HB]
  · isplitl [HZ]; · iexact HZ
    iexact HB
  isplitl [HO]
  · iexists W'
    isplitr; · ipureintro; exact fun _ _ => Or.inl trivial
    iexact HO
  isplitl [S0]; · iapply (stg_intro c cc0_stg0_0 (xs m c)); iexact S0
  isplitl [S1]; · iapply (stg_intro c cc0_stg1_0 (wqs m c)); iexact S1
  isplitl [S2]; · iapply (stg_intro c cc0_stg2_0 (wos m c)); iexact S2
  isplitl [S3]; · iapply (stg_intro c cc0_stg3_0 (ks m c)); iexact S3
  isplitl [S4]; · iapply (stg_intro c cc0_stg4_0 (vs m c)); iexact S4
  iapply (stg_intro c cc0_stg5_0 (outv m c)); iexact S5

theorem wins (Φ : Fin cfg0.W → sProp 𝕄) : bigSep Finset.univ Φ
    = iprop(Φ (0 : Fin 6) ∗ Φ (1 : Fin 6) ∗ Φ (2 : Fin 6) ∗ Φ (3 : Fin 6) ∗ Φ (4 : Fin 6) ∗ Φ (5 : Fin 6)) := bigSep_W0 Φ

theorem body_obligation (c : Dev nD) : BodyObligation (dats (F := F) m ρ 0 c) (defs₀ (F := F)) 𝒱₀ () Set.univ := fun t => by
  rw [show t = t0_0 from fin_N0 t]
  rw [wins, wins]
  simp only [owns_whole_any]
  exact body_run m ρ c

end Body

/-! ## The launch -/

theorem ownSemFacts : Pipeline.OwnSemFacts cfg0.spec osem := by decide +kernel

theorem share_eq (c : Dev nD) (w : Fin cfg0.W) : (dats m ρ 0 c).share w = fullShare := by unfold Dat.share; split <;> rfl

def cellOfPair (ck : Dev nD × CK) : GSem nD τ sig := cell ck.1 ck.2
theorem cellOfPair_injective : Function.Injective cellOfPair := fun a b h => Prod.ext (cell_inj h).1 (cell_inj h).2
def allCells : Finset (GSem nD τ sig) := Finset.univ.map ⟨cellOfPair, cellOfPair_injective⟩

/-- The duties: three at a barrier, one at each other cell. -/
def tokAt (x : Dev nD × (Fin 3 ⊕ (Fin 6 × Fin 3))) : GSem nD τ sig × ℕ × Fin 3 := match x.2 with
  | .inl j => (cell x.1 none, 0, j)
  | .inr k => (cell x.1 (some k), 0, 0)
theorem tokAt_injective : Function.Injective tokAt := by
  rintro ⟨c, j | k⟩ ⟨c', j' | k'⟩ h
  · have h1 := cell_inj (congrArg (fun x => x.1) h)
    have h0 : c = c' := h1.1
    have h2 : j = j' := congrArg (fun x => x.2.2) h
    rw [h0, h2]
  · exact absurd (cell_inj (congrArg (fun x => x.1) h)).2 (by simp)
  · exact absurd (cell_inj (congrArg (fun x => x.1) h)).2 (by simp)
  · have h1 := cell_inj (congrArg (fun x => x.1) h)
    have h0 : c = c' := h1.1
    rw [h0, Option.some.inj h1.2]
def allToks : Finset (GSem nD τ sig × ℕ × Fin 3) := Finset.univ.map ⟨tokAt, tokAt_injective⟩

def u₀ : UU :=
  (initOf (Pipeline.cells cfgs cellOf_inj) (Pipeline.launchToks cfgs cellOf_inj), initOf allCells allToks)

/-- The tokens of device `c`'s own cells; -/
def toks (c : Dev nD) : sProp 𝕄 := iprop(tok c (none) 0
    ∗ tok c (none) 1
    ∗ tok c (none) 2
    ∗ tok c (some (0, 0)) 0
    ∗ tok c (some (0, 1)) 0
    ∗ tok c (some (0, 2)) 0
    ∗ tok c (some (1, 0)) 0
    ∗ tok c (some (1, 1)) 0
    ∗ tok c (some (1, 2)) 0
    ∗ tok c (some (2, 0)) 0
    ∗ tok c (some (2, 1)) 0
    ∗ tok c (some (2, 2)) 0
    ∗ tok c (some (3, 0)) 0
    ∗ tok c (some (3, 1)) 0
    ∗ tok c (some (3, 2)) 0
    ∗ tok c (some (4, 0)) 0
    ∗ tok c (some (4, 1)) 0
    ∗ tok c (some (4, 2)) 0
    ∗ tok c (some (5, 0)) 0
    ∗ tok c (some (5, 1)) 0
    ∗ tok c (some (5, 2)) 0)
/-- those it pays with. -/
def payToks (c : Dev nD) : sProp 𝕄 := iprop(tok (rot c 1) (none) 0
    ∗ tok (rot c 2) (none) 1
    ∗ tok (rot c 3) (none) 2
    ∗ tok c (some (0, 0)) 0
    ∗ tok c (some (0, 1)) 0
    ∗ tok c (some (0, 2)) 0
    ∗ tok (rot c 1) (some (1, 0)) 0
    ∗ tok (rot c 1) (some (1, 1)) 0
    ∗ tok (rot c 1) (some (1, 2)) 0
    ∗ tok c (some (2, 0)) 0
    ∗ tok c (some (2, 1)) 0
    ∗ tok c (some (2, 2)) 0
    ∗ tok c (some (3, 0)) 0
    ∗ tok c (some (3, 1)) 0
    ∗ tok c (some (3, 2)) 0
    ∗ tok (rot c 3) (some (4, 0)) 0
    ∗ tok (rot c 2) (some (4, 1)) 0
    ∗ tok (rot c 1) (some (4, 2)) 0
    ∗ tok (rot c 3) (some (5, 0)) 0
    ∗ tok (rot c 2) (some (5, 1)) 0
    ∗ tok (rot c 1) (some (5, 2)) 0)

def G (c : Dev nD) : sProp 𝕄 :=
  iprop((bigSep Finset.univ fun k : CK => roundState ER (rd m) (cell c k) 0)
    ∗ (bigSep Finset.univ fun k : CK => at0 c k) ∗ (bigSep Finset.univ fun k : CK => reached ER (cell c k) 0) ∗ toks c)

/-- Device `c`'s positions at its cells, and the tokens it pays with. -/
def mine (c : Dev nD) : sProp 𝕄 := iprop((bigSep Finset.univ fun k : CK => at0 c k) ∗ payToks c)
def G' (c : Dev nD) : sProp 𝕄 := iprop((∃ K, records m K) ∗ mine c)

theorem listed_cons {I : Type} (i j : I) (l : List I) (Φ : I → sProp 𝕄) : bigSepL (i :: j :: l) Φ = iprop(Φ i ∗ bigSepL (j :: l) Φ) := rfl
theorem allCK (Φ : CK → sProp 𝕄) : bigSep Finset.univ Φ = bigSepL [none, some (0, 0), some (0, 1), some (0, 2), some (1, 0), some (1, 1), some (1, 2), some (2, 0), some (2, 1), some (2, 2), some (3, 0), some (3, 1), some (3, 2), some (4, 0), some (4, 1), some (4, 2), some (5, 0), some (5, 1), some (5, 2)] Φ := bigSep_univ_eq_bigSepL _ (by decide) (by decide) Φ
theorem allK (Φ : Fin 6 × Fin 3 → sProp 𝕄) : bigSep Finset.univ Φ = bigSepL [(0, 0), (0, 1), (0, 2), (1, 0), (1, 1), (1, 2), (2, 0), (2, 1), (2, 2), (3, 0), (3, 1), (3, 2), (4, 0), (4, 1), (4, 2), (5, 0), (5, 1), (5, 2)] Φ := bigSep_univ_eq_bigSepL _ (by decide) (by decide) Φ

theorem toks_eq (c : Dev nD) : (bigSep Finset.univ fun x : Fin 3 ⊕ (Fin 6 × Fin 3) => dutyTok ER (tokAt (c, x)).1 (tokAt (c, x)).2.1 (tokAt (c, x)).2.2 : sProp 𝕄) ⊢ toks c := by
  rw [bigSep_univ_sum]
  show iprop((bigSep Finset.univ fun j : Fin 3 => tok c none j) ∗ bigSep Finset.univ fun k : Fin 6 × Fin 3 => tok c (some k) 0) ⊢ _
  rw [allK, fin3]
  unfold toks
  simp only [listed_cons, bigSepL_singleton]
  iintro ⟨⟨T0, T1, T2⟩, T3, T4, T5, T6, T7, T8, T9, T10, T11, T12, T13, T14, T15, T16, T17, T18, T19, T20⟩
  isplitl [T0]; · iexact T0
  isplitl [T1]; · iexact T1
  isplitl [T2]; · iexact T2
  isplitl [T3]; · iexact T3
  isplitl [T4]; · iexact T4
  isplitl [T5]; · iexact T5
  isplitl [T6]; · iexact T6
  isplitl [T7]; · iexact T7
  isplitl [T8]; · iexact T8
  isplitl [T9]; · iexact T9
  isplitl [T10]; · iexact T10
  isplitl [T11]; · iexact T11
  isplitl [T12]; · iexact T12
  isplitl [T13]; · iexact T13
  isplitl [T14]; · iexact T14
  isplitl [T15]; · iexact T15
  isplitl [T16]; · iexact T16
  isplitl [T17]; · iexact T17
  isplitl [T18]; · iexact T18
  isplitl [T19]; · iexact T19
  iexact T20

theorem fund : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : CK => Φ (cell c k) := by
    unfold allCells; rw [bigSep_map, bigSep_univ_prod]; rfl
  have hT : bigSep allToks (fun x => (dutyTok ER x.1 x.2.1 x.2.2 : sProp 𝕄)) ⊢ bigSep Finset.univ fun c : Dev nD => toks c := by
    unfold allToks; rw [bigSep_map, bigSep_univ_prod]
    exact bigSep_mono fun c _ => toks_eq c
  iintro HX
  imod (Rounds.fund ER (rd m) allCells allToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hat']; · unfold at0; iexact Hat'
  isplitl [Hr']; · iexact Hr'
  iexact Htok'

/-- The kernel's own semaphores and the barrier's, at zero. -/
theorem ownSems0_eq (c : Dev nD) : (Pipeline.ownSems0 (Ix := Unit) (Name := ℕ) (U := UU) (Lvl := ℕ) (Val := Elt F) (τ := τ) osem c : sProp 𝕄)
    = bigSepL [(0, 0), (0, 1), (0, 2), (1, 0), (1, 1), (1, 2), (2, 0), (2, 1), (2, 2), (3, 0), (3, 1), (3, 2), (4, 0), (4, 1), (4, 2), (5, 0), (5, 1), (5, 2)] fun k => done c (some k) := by
  rw [Pipeline.ownSems0_eq_of_list c osem [(0, 0), (0, 1), (0, 2), (1, 0), (1, 1), (1, 2), (2, 0), (2, 1), (2, 2), (3, 0), (3, 1), (3, 2), (4, 0), (4, 1), (4, 2), (5, 0), (5, 1), (5, 2)] (by decide) (by decide)]; rfl
theorem unscopedSems0_eq (c : Dev nD) : (unscopedSems0 c : sProp 𝕄) = done c none := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (cell c k) 0 : sProp 𝕄) := by
  rw [ownSems0_eq, unscopedSems0_eq, allCK]
  unfold done
  simp only [listed_cons, bigSepL_singleton]
  iintro ⟨H, HB⟩
  isplitl [HB]; · iexact HB
  iexact H

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (rd m) κ (cell c k)))
          ∗ (bigSep Finset.univ fun k : CK => at0 c k) ∗ (bigSep Finset.univ fun k : CK => reached ER (cell c k) 0) ∗ toks c) := by
  unfold G
  iintro ⟨Hos, Hus, Hst, Hat⟩
  ihave Hv := (sems0_eq (F := F) c) $$ [Hos Hus]
  · isplitl [Hos] <;> iassumption
  imod (show iprop((bigSep Finset.univ fun k : CK => semVal (cell c k) 0) ∗ bigSep Finset.univ fun k : CK => roundState ER (rd m) (cell c k) 0)
      ⊢ (|={Set.univ}=> bigSep Finset.univ fun k : CK => iprop(∃ κ : ℕ, cellInv ER (rd m) κ (cell c k)) : sProp 𝕄) from by
        rw [← bigSep_sep']
        exact (bigSep_mono fun k _ => (Rounds.body_intro ER (rd m) (cell c k)).trans inv_alloc).trans (bigSep_fupd _ _)) $$ [Hv Hst] with Hinv
  · isplitl [Hv]; · iexact Hv
    iexact Hst
  imodintro
  isplitl [Hinv]; · iexact Hinv
  iexact Hat

/-- The tokens dealt round the ring to the devices that pay with them. -/
theorem toks_around : (bigSep Finset.univ fun c : Dev nD => (toks c : sProp 𝕄)) ⊢ bigSep Finset.univ fun c : Dev nD => payToks c := by
  unfold toks payToks
  simp only [bigSep_sep']
  rw [bigSep_univ_equiv (turn 1) (fun c : Dev nD => (tok c (none) 0 : sProp 𝕄)),
    bigSep_univ_equiv (turn 2) (fun c : Dev nD => (tok c (none) 1 : sProp 𝕄)),
    bigSep_univ_equiv (turn 3) (fun c : Dev nD => (tok c (none) 2 : sProp 𝕄)),
    bigSep_univ_equiv (turn 1) (fun c : Dev nD => (tok c (some (1, 0)) 0 : sProp 𝕄)),
    bigSep_univ_equiv (turn 1) (fun c : Dev nD => (tok c (some (1, 1)) 0 : sProp 𝕄)),
    bigSep_univ_equiv (turn 1) (fun c : Dev nD => (tok c (some (1, 2)) 0 : sProp 𝕄)),
    bigSep_univ_equiv (turn 3) (fun c : Dev nD => (tok c (some (4, 0)) 0 : sProp 𝕄)),
    bigSep_univ_equiv (turn 2) (fun c : Dev nD => (tok c (some (4, 1)) 0 : sProp 𝕄)),
    bigSep_univ_equiv (turn 1) (fun c : Dev nD => (tok c (some (4, 2)) 0 : sProp 𝕄)),
    bigSep_univ_equiv (turn 3) (fun c : Dev nD => (tok c (some (5, 0)) 0 : sProp 𝕄)),
    bigSep_univ_equiv (turn 2) (fun c : Dev nD => (tok c (some (5, 1)) 0 : sProp 𝕄)),
    bigSep_univ_equiv (turn 1) (fun c : Dev nD => (tok c (some (5, 2)) 0 : sProp 𝕄))]
  exact BI.Entails.refl _

theorem share_records (K : Dev nD × CK → ℕ) (c : Dev nD) : iprop(records m K ∗ mine c) ⊢ G' m c := by
  unfold G'
  iintro ⟨#HR, HM⟩
  isplitr; · iexists K; iexact HR
  iexact HM

theorem regroup :
    (bigSep Finset.univ fun c : Dev nD => iprop((bigSep Finset.univ fun k : CK => iprop(∃ κ : ℕ, cellInv ER (rd m) κ (cell c k)))
          ∗ (bigSep Finset.univ fun k : CK => at0 c k) ∗ (bigSep Finset.univ fun k : CK => reached ER (cell c k) 0) ∗ toks c) : sProp 𝕄)
      ⊢ bigSep Finset.univ (G' m) := by
  rw [bigSep_sep', bigSep_sep', bigSep_sep', ← bigSep_univ_prod (fun ck : Dev nD × CK => iprop(∃ κ : ℕ, cellInv ER (rd m) κ (cell ck.1 ck.2))),
    ← bigSep_univ_prod (fun ck : Dev nD × CK => (reached ER (cell ck.1 ck.2) 0 : sProp 𝕄))]
  iintro ⟨HI, Hat, #HR, Htok⟩
  ihave HK := (BI.bigSep_exists_pi Finset.univ (fun (ck : Dev nD × CK) (κ : ℕ) => (cellInv ER (rd m) κ (cell ck.1 ck.2) : sProp 𝕄))) $$ HI
  icases HK with ⟨%K, #HI⟩
  ihave Htk := (toks_around (F := F)) $$ Htok
  iapply (bigSep_with_persistent (R := records m K) (Φ := mine) (Ψ := G' m) fun c _ => share_records m K c)
  isplitr
  · unfold records; isplitl; · iexact HI
    iexact HR
  · unfold mine
    simp only [bigSep_sep']
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The credit at launch -/

/-- What the devices together owe a cell by a list of raises: its amount, as often as the list names it. -/
theorem owed_sum (c : Dev nD) (k : CK) (l : List (ℕ × CK)) : (∑ d : Dev nD, debt d l (cell c k) ()) = l.countP (fun p => p.2 = k) * amt k := by
  induction l with
  | nil => simp [debt]
  | cons p l ih =>
    have h1 (d : Dev nD) : debt d (p :: l) (cell c k) () = debt d l (cell c k) () + due d p (cell c k) () := by
      show (debt d l + due d p) (cell c k) () = _
      rw [Pi.add_apply, Finsupp.add_apply]
    have h2 (d : Dev nD) : due d p (cell c k) () = if turn p.1 d = c then (if p.2 = k then amt k else 0) else 0 := by
      unfold due
      rw [tallyAt_apply]
      by_cases hk : p.2 = k
      · by_cases hd' : turn p.1 d = c
        · have hd2 : rot d p.1 = c := hd'
          rw [if_pos ⟨by rw [hk, hd2], rfl⟩, if_pos hd', if_pos hk, hk]
        · rw [if_neg fun h => hd' (cell_inj h.1).1.symm, if_neg hd']
      · rw [if_neg fun h => hk (cell_inj h.1).2.symm, if_neg hk]; split <;> rfl
    rw [Finset.sum_congr rfl fun d _ => h1 d, Finset.sum_add_distrib, ih, Finset.sum_congr rfl fun d _ => h2 d,
      Equiv.sum_comp (turn p.1) (fun d => if d = c then (if p.2 = k then amt k else 0) else 0), Finset.sum_ite_eq' Finset.univ c fun _ => _, if_pos (Finset.mem_univ _),
      List.countP_cons, Nat.add_mul]
    congr 1
    by_cases hk : p.2 = k
    · simp [hk]
    · simp [hk]

theorem launch_cell (c : Dev nD) (k : CK) (n : ℕ) (hn : plan.countP (fun p => p.2 = k) = n) :
    tallyOn (cell c k) (launchCredit (Pipeline.owing fun d => Od d 0) 0 (cell c k)) = (tallyAt (cell c k) () (n * amt k) : CellTallies nD τ sig Unit) := by
  unfold tallyAt; refine congrArg _ (Finsupp.ext fun u => ?_); cases u
  rw [Pipeline.launchCredit_owing, Finsupp.single_eq_same, ← hn]
  exact owed_sum c k plan

/-- The cells other devices raise. -/
def raised : List CK := [none, some (1, 0), some (1, 1), some (1, 2), some (4, 0), some (4, 1), some (4, 2), some (5, 0), some (5, 1), some (5, 2)]
theorem raised_count : ∀ k ∈ raised, plan.countP (fun p => p.2 = k) = (dutiesOf k).card := by decide

theorem creds (c : Dev nD) :
    (Pipeline.launchCred (fun d => Od d 0) c : sProp 𝕄) ⊢ bigSepL raised fun k => cred (tallyAt (cell c k) () ((dutiesOf k).card * amt k)) := by
  unfold Pipeline.launchCred
  rw [← bigSep_eq_bigSepL raised (by decide)]
  refine BI.Entails.trans (bigSep_subset (Finset.subset_univ (raised.toFinset.map ⟨csem, csem_injective⟩))) ?_
  rw [bigSep_map]
  exact bigSep_mono fun k hk => Entails.of_eq (congrArg cred (launch_cell c k _ (raised_count k (List.mem_toFinset.mp hk))))

theorem hold_intro (c : Dev nD) :
    iprop(mine c ∗ bigSepL raised fun k => cred (tallyAt (cell c k) () ((dutiesOf k).card * amt k))) ⊢ (hold c : sProp 𝕄) := by
  unfold mine payToks hold raised
  rw [allCK]
  simp only [listed_cons, bigSepL_singleton]
  iintro ⟨⟨⟨A0, A1, A2, A3, A4, A5, A6, A7, A8, A9, A10, A11, A12, A13, A14, A15, A16, A17, A18⟩, T0, T1, T2, T3, T4, T5, T6, T7, T8, T9, T10, T11, T12, T13, T14, T15, T16, T17, T18, T19, T20⟩, C0, C1, C2, C3, C4, C5, C6, C7, C8, C9⟩
  isplitl [T0]
  · iexact T0
  isplitl [T1]
  · iexact T1
  isplitl [T2]
  · iexact T2
  isplitl [A0 C0]
  · unfold ready; isplitl [A0]; · iexact A0
    iexact C0
  isplitl [A4 C1]
  · unfold ready; isplitl [A4]; · iexact A4
    iexact C1
  isplitl [A5 C2]
  · unfold ready; isplitl [A5]; · iexact A5
    iexact C2
  isplitl [A6 C3]
  · unfold ready; isplitl [A6]; · iexact A6
    iexact C3
  isplitl [A13 C4]
  · unfold ready; isplitl [A13]; · iexact A13
    iexact C4
  isplitl [A14 C5]
  · unfold ready; isplitl [A14]; · iexact A14
    iexact C5
  isplitl [A15 C6]
  · unfold ready; isplitl [A15]; · iexact A15
    iexact C6
  isplitl [A16 C7]
  · unfold ready; isplitl [A16]; · iexact A16
    iexact C7
  isplitl [A17 C8]
  · unfold ready; isplitl [A17]; · iexact A17
    iexact C8
  isplitl [A18 C9]
  · unfold ready; isplitl [A18]; · iexact A18
    iexact C9
  isplitl [A1 T3 T6]
  · unfold goQ; isplitl [A1]; · iexact A1
    isplitl [T3]; · iexact T3
    iexact T6
  isplitl [A2 T4 T7]
  · unfold goQ; isplitl [A2]; · iexact A2
    isplitl [T4]; · iexact T4
    iexact T7
  isplitl [A3 T5 T8]
  · unfold goQ; isplitl [A3]; · iexact A3
    isplitl [T5]; · iexact T5
    iexact T8
  isplitl [A7 T9 T15]
  · unfold goO; isplitl [A7]; · iexact A7
    isplitl [T9]; · iexact T9
    iexact T15
  isplitl [A8 T10 T16]
  · unfold goO; isplitl [A8]; · iexact A8
    isplitl [T10]; · iexact T10
    iexact T16
  isplitl [A9 T11 T17]
  · unfold goO; isplitl [A9]; · iexact A9
    isplitl [T11]; · iexact T11
    iexact T17
  isplitl [A10 T12 T18]
  · unfold goT; isplitl [A10]; · iexact A10
    isplitl [T12]; · iexact T12
    iexact T18
  isplitl [A11 T13 T19]
  · unfold goT; isplitl [A11]; · iexact A11
    isplitl [T13]; · iexact T13
    iexact T19
  unfold goT; isplitl [A12]; · iexact A12
  isplitl [T14]; · iexact T14
  iexact T20

/-! ### The theorem's side conditions -/

theorem start_intro (c : Dev nD) :
    iprop(Pipeline.unscopedRestP Pipeline.Prefetch.none cfg0.spec c (fun b => m ((c : Thread nD τ).loc b)) ∗ levAts L lv
        ∗ Pipeline.launchCred (fun d => Od d 0) c ∗ prngReg c (ρ c) ∗ G' m c)
      ⊢ |={Set.univ}=> iprop(start m c ∗ emp) := by
  iintro ⟨-, Hlev, Hcr, -, HG⟩
  ihave Hc := (creds (F := F) c) $$ Hcr
  unfold G'
  icases HG with ⟨⟨%K, HR⟩, HM⟩
  imodintro
  unfold start env
  isplitl
  · isplitl [HR Hlev]
    · iexists K
      isplitl [HR]; · iexact HR
      iexact Hlev
    iapply (hold_intro c)
    isplitl [HM]; · iexact HM
    iexact Hc
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ bufs scr
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ bufs scr shut
  simp only [listed_cons, bigSepL_singleton]
  iintro ⟨⟨HzB, Hz⟩, Hr⟩
  isplitl [HzB]; · iexact HzB
  isplitl [Hz]; · iexact Hz
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_of_above c _ 0 (by revert w s c; decide +kernel) _ (by
      rcases t with ⟨_ | _, ht⟩
      · exact above_debt 0 c plan (by decide)
      · exact above_debt 0 c [] (by decide))

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- On four devices, from any memory with the counters at zero: every fair execution ends, each device's block of the result
    at the computed contents, the arguments unchanged, every counter back at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => Od d 0) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.RingAttn

end
-- ==== Proof.Frames.lean ====
/-
  The claims about one program at a time. The kernel's run is `Cert.RingAttn.run_main`, over any floats: at the bit-exact
  instance it is the run of `Kernel`, whose text is the same, and at the ideal one that of `KernelIdeal`. The reference is
  a list of host operations, whose run is the generated one; it has no semaphore.
-/
module

public import proofs.«01_k».proof.Defs
public import proofs.«01_k».proof.Proof.Launch
public import proofs.«01_k».proof.Proof.Gen.Kernel
public import proofs.«01_k».proof.Proof.Gen.ReferenceIdeal.Run
public import Idealize.ShloMosaic.Lib.Quiescent

@[expose] public section

noncomputable section

namespace Cert.RingAttn

open Cert.KernelIdeal Cert.KernelIdeal.Gen
open Idealize.ShloMosaic
open Idealize.ShloMosaic.TcCoe
open Idealize.SL.Sem

variable {F : FTy → Type} [FloatOps F]

variable (m : (ℓ : Loc nD τ sig) → Buf (Elt F) ℓ) (ρ : Dev nD → PrngReg)

/-- A window that is only fetched leaves its array as it was. -/
theorem finalA_in (c : Dev nD) (w : Fin cfg0.W) (hw : (cfg0.win w).isOut = false) :
    finalA m ρ c w = m ((cfg0.win w).arr.view.loc (c : Thread nD τ)) :=
  (dats m ρ 0 c).arrAt_in w hw _

/-- The five arguments at the end of a run, in the order of the program's arguments. -/
theorem args_kept {r : PUnit × MemSt nD τ sig (Elt F)} (h : QC m ρ r) (c : Dev nD) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  ⟨(h c (0 : Fin 6)).trans (finalA_in m ρ c (0 : Fin 6) rfl), (h c (1 : Fin 6)).trans (finalA_in m ρ c (1 : Fin 6) rfl),
    (h c (3 : Fin 6)).trans (finalA_in m ρ c (3 : Fin 6) rfl), (h c (4 : Fin 6)).trans (finalA_in m ρ c (4 : Fin 6) rfl),
    (h c (2 : Fin 6)).trans (finalA_in m ρ c (2 : Fin 6) rfl)⟩

/-- The run, read at the five arguments and at the counters. -/
theorem run_args : θ_run defs (onTc (τ := τ) (main (F := F))) (s₀ m ρ) (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4))
      ∧ r.2.sem = fun _ => 0) :=
  (θ_run defs _ _).mono (fun _ h => ⟨args_kept m ρ h.1, h.2⟩) (run_main m ρ)

theorem frame_ideal : Cert.quiescent_KernelIdeal := fun m ρ _ => run_args (F := Ideal) m ρ

/-- The two programs have the same text, so the same table of bodies. -/
theorem bodies_eq : @Cert.Kernel.defs₀ F _ _ = Cert.KernelIdeal.defs₀ (F := F) := by
  unfold Cert.Kernel.defs₀ Cert.KernelIdeal.defs₀
  refine congrArg _ ?_
  funext l a
  obtain ⟨l, hl⟩ := l
  cases l with
  | zero => exact congrFun rfl _
  | succ n => exact absurd hl (Nat.not_lt.2 (Nat.le_add_left _ _))

theorem defs_eq : Cert.Kernel.defs (F := F) = Cert.KernelIdeal.defs (F := F) :=
  congrArg (Pipeline.defs Cert.KernelIdeal.pcfgs) bodies_eq

theorem frame_kernel : Cert.quiescent_Kernel := fun m ρ _ => by
  rw [defs_eq]
  exact run_args (F := Bits) m ρ

theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

end Cert.RingAttn

end
-- ==== Proof.Softmax.lean ====
/-
  The arithmetic: a softmax-weighted sum over the keys is the sum, over four blocks of keys, of the blocks' own sums, each
  scaled by the exponential of its block's maximum less the greatest. Over the extended reals, with no condition.
-/
module

public import Idealize.ShloMosaic.PureOps.Ideal
public import Mathlib.Data.EReal.Operations
public import Mathlib.Algebra.BigOperators.Fin
public import Mathlib.Order.CompleteLattice.Finset

@[expose] public section

noncomputable section

namespace Cert.Softmax

open Idealize.ShloMosaic

/-- A nonnegative real factor goes into a sum. -/
theorem mul_sum {ι : Type} (s : Finset ι) (a : EReal) (h0 : 0 ≤ a) (ht : a ≠ ⊤) (f : ι → EReal) : a * ∑ i ∈ s, f i = ∑ i ∈ s, a * f i := by
  classical
  induction s using Finset.induction_on with
  | empty => simp
  | insert i s hi ih => rw [Finset.sum_insert hi, Finset.sum_insert hi, EReal.left_distrib_of_nonneg_of_ne_top h0 ht, ih]

/-- The scale, taken out of the sum of a product. -/
theorem scaled_sum {n : ℕ} (κ : EReal) (h0 : 0 ≤ κ) (ht : κ ≠ ⊤) (q k : Fin n → EReal) :
    ∑ d, q d * κ * k d = (∑ d, q d * k d) * κ := by
  rw [mul_comm _ κ, mul_sum _ κ h0 ht]
  exact Finset.sum_congr rfl fun d _ => by rw [mul_comm (q d) κ, mul_assoc]

/-- The exponential of a difference of two, the second no less, is nonnegative and no greater than one. -/
theorem exp_nonneg (x : EReal) : 0 ≤ Ideal.exp x := by
  induction x with
  | bot => simp
  | top => simp
  | coe r => rw [Ideal.exp_coe]; exact_mod_cast (Real.exp_pos r).le

theorem exp_ne_top {a b : EReal} (h : a ≤ b) : Ideal.exp (a - b) ≠ ⊤ := by
  induction b with
  | bot => rw [le_bot_iff.1 h]; simp
  | top => simp
  | coe s =>
    induction a with
    | bot => simp
    | top => exact absurd h (by simp)
    | coe r => rw [← EReal.coe_sub, Ideal.exp_coe]; exact EReal.coe_ne_top _

/-- The exponentials compose, through any value between. -/
theorem exp_through {s a b : EReal} (h1 : s ≤ a) (h2 : a ≤ b) : Ideal.exp (a - b) * Ideal.exp (s - a) = Ideal.exp (s - b) := by
  induction b with
  | bot => obtain rfl := le_bot_iff.1 h2; obtain rfl := le_bot_iff.1 h1; simp
  | top => simp
  | coe b =>
    induction a with
    | bot => rw [le_bot_iff.1 h1]; simp
    | top => exact absurd h2 (by simp)
    | coe a =>
      induction s with
      | bot => simp
      | top => exact absurd h1 (by simp)
      | coe s =>
        rw [← EReal.coe_sub, ← EReal.coe_sub, ← EReal.coe_sub, Ideal.exp_coe, Ideal.exp_coe, Ideal.exp_coe, ← EReal.coe_mul, ← Real.exp_add]
        congr 2; ring

/-- A fold of the maximum is the least upper bound. -/
theorem fold_max {n : ℕ} (f : Fin n → EReal) : Finset.univ.fold max ⊥ f = ⨆ i, f i :=
  Finset.sup_univ_eq_iSup f

section Blocks
variable {n : ℕ} (s : Fin 4 → Fin n → EReal) (w : Fin 4 → Fin n → EReal)

/-- A block's maximum, its sum and its weighted sum. -/
def mB (a : Fin 4) : EReal := ⨆ j, s a j
def lB (a : Fin 4) : EReal := ∑ j, Ideal.exp (s a j - mB s a)
def oB (a : Fin 4) : EReal := ∑ j, Ideal.exp (s a j - mB s a) * w a j
/-- The greatest, and a block's factor. -/
def mA : EReal := max (max (mB s 0) (mB s 1)) (max (mB s 2) (mB s 3))
def fB (a : Fin 4) : EReal := Ideal.exp (mB s a - mA s)

theorem mA_eq : mA s = ⨆ a, ⨆ j, s a j := by
  apply le_antisymm
  · exact max_le (max_le (le_iSup (mB s) 0) (le_iSup (mB s) 1)) (max_le (le_iSup (mB s) 2) (le_iSup (mB s) 3))
  · refine iSup_le fun a => ?_
    show mB s a ≤ mA s
    unfold mA
    fin_cases a
    · exact le_max_of_le_left (le_max_left _ _)
    · exact le_max_of_le_left (le_max_right _ _)
    · exact le_max_of_le_right (le_max_left _ _)
    · exact le_max_of_le_right (le_max_right _ _)

theorem mB_le (a : Fin 4) : mB s a ≤ mA s := by rw [mA_eq]; exact le_iSup (mB s) a

theorem fB_lB (a : Fin 4) : fB s a * lB s a = ∑ j, Ideal.exp (s a j - mA s) := by
  unfold fB lB
  rw [mul_sum _ _ (exp_nonneg _) (exp_ne_top (mB_le s a))]
  exact Finset.sum_congr rfl fun j _ => exp_through (le_iSup (s a) j) (mB_le s a)

theorem fB_oB (a : Fin 4) : oB s w a * fB s a = ∑ j, Ideal.exp (s a j - mA s) * w a j := by
  unfold fB oB
  rw [mul_comm, mul_sum _ _ (exp_nonneg _) (exp_ne_top (mB_le s a))]
  exact Finset.sum_congr rfl fun j _ => by
    rw [← mul_assoc, exp_through (a := mB s a) (le_iSup (s a) j) (mB_le s a)]

/-- The four blocks' sums, scaled and added in order; the weighted ones. -/
theorem sums : 0 + fB s 0 * lB s 0 + fB s 1 * lB s 1 + fB s 2 * lB s 2 + fB s 3 * lB s 3 = ∑ a, ∑ j, Ideal.exp (s a j - mA s) := by
  rw [Fin.sum_univ_four, zero_add, fB_lB, fB_lB, fB_lB, fB_lB]

theorem weighted : oB s w 0 * fB s 0 + oB s w 1 * fB s 1 + oB s w 2 * fB s 2 + oB s w 3 * fB s 3 = ∑ a, ∑ j, Ideal.exp (s a j - mA s) * w a j := by
  rw [Fin.sum_univ_four, fB_oB, fB_oB, fB_oB, fB_oB]
end Blocks

end Cert.Softmax

end
-- ==== Proof.KernelValue.lean ====
/-
  What one device computes, read at an index over the extended reals: the pieces of the partial softmax of a query block over
  a key and value block, and of their combination.
-/
module

public import proofs.«01_k».proof.Proof.Frames
public import proofs.«01_k».proof.Proof.Softmax
public import Idealize.ShloMosaic.Lib.Pointwise
public import Idealize.ShloMosaic.Lib.Pipeline.Value
public import Idealize.ShloMosaic.PureOps.Ideal.Laws

@[expose] public section

set_option maxRecDepth 16384

noncomputable section

namespace Cert.RingAttn

open Cert.KernelIdeal Cert.KernelIdeal.Gen
open Idealize.ShloMosaic
open Idealize.ShloMosaic.TcCoe
open Idealize.ShloMosaic.Pointwise
open Cert.Softmax

/-- The scale of the scores. -/
def κ : EReal := Ideal.ofBits .f32 0x3DB504F3#32

theorem κ_nonneg : 0 ≤ κ := by
  simp [κ, Ideal.ofBits, Ideal.ieee, -EReal.coe_mul]

theorem κ_ne_top : κ ≠ ⊤ := by
  simp [κ, Ideal.ofBits, Ideal.ieee, -EReal.coe_mul]

theorem ofBits_neg_inf : Ideal.ofBits .f32 0xFF800000#32 = ⊥ := by simp [Ideal.ofBits, Ideal.ieee]

/-- The column of a wide block at place `d` of head `h`. -/
def hcol (h : Fin 8) (d : Fin 128) : Fin 1024 := ⟨128 * h.val + d.val, by omega⟩

theorem pay2_apply (x : FVec Ideal S256x1024 .bf16) (w : FVec Ideal S1024x1024 .bf16) (r : Fin 256) (c : Fin 1024) :
    k0_pay3 (k0_pay2 (F := Ideal) x w) (ix2 r c) = (∑ k : Fin 1024, x (ix2 r k) * w (ix2 k c)) * κ := by
  pointwise [k0_pay2, k0_pay3]
  rfl

section Partial
variable (q : FVec Ideal S256x1024 .bf16) (X Y : S4096x1024.Idx → EReal) (h : Fin 8)

theorem kl_apply (j : Fin 4096) (d : Fin 128) : kl (F := Ideal) X h (ix2 j d) = X (ix2 j (hcol h d)) :=
  congrArg X (funext fun a => Fin.ext (match a with
    | 0 => (show 0 + 1 * j.val = j.val by omega)
    | 1 => (show 128 * h.val + 1 * d.val = 128 * h.val + d.val by omega)))

theorem vl_apply (j : Fin 4096) (d : Fin 128) : vl (F := Ideal) Y h (ix2 j d) = Y (ix2 j (hcol h d)) :=
  congrArg Y (funext fun a => Fin.ext (match a with
    | 0 => (show 0 + 1 * j.val = j.val by omega)
    | 1 => (show 128 * h.val + 1 * d.val = 128 * h.val + d.val by omega)))

theorem qh_apply (r : Fin 256) (d : Fin 128) : qh q h (ix2 r d) = q (ix2 r (hcol h d)) := by
  pointwise [qh]
  rfl

/-- The scores, their maxima, the sums of the exponentials and the weighted values. -/
theorem sc_apply (r : Fin 256) (j : Fin 4096) : sc q X h (ix2 r j) = ∑ d : Fin 128, q (ix2 r (hcol h d)) * X (ix2 j (hcol h d)) := by
  pointwise [sc, kc]
  exact Finset.sum_congr rfl fun d _ => congrArg₂ (· * ·) (qh_apply q h r d) (kl_apply X h j d)

theorem mx_apply (r : Fin 256) : mx q X h (ix2 r 0) = ⨆ j : Fin 4096, sc q X h (ix2 r j) := by
  pointwise [mx]
  rw [ofBits_neg_inf, fold_max]

theorem pr_apply (r : Fin 256) (j : Fin 4096) : pr q X h (ix2 r j) = Ideal.exp (sc q X h (ix2 r j) - mx q X h (ix2 r 0)) := by
  pointwise [pr, sb, mb]

theorem ls_apply (r : Fin 256) : ls q X h (ix2 r 0) = ∑ j : Fin 4096, pr q X h (ix2 r j) := by
  pointwise [ls]

theorem ov_apply (r : Fin 256) (d : Fin 128) : ov q X Y h (ix2 r d) = ∑ j : Fin 4096, pr q X h (ix2 r j) * Y (ix2 j (hcol h d)) := by
  pointwise [ov, pt, vc]
  exact Finset.sum_congr rfl fun j _ => congrArg₂ (· * ·) rfl (vl_apply Y h j d)
end Partial

theorem cat8_apply (g : Fin 8 → FVec Ideal S256x1 .f32) (r : Fin 256) (h : Fin 8) : cat8 g (ix2 r h) = g h (ix2 r 0) :=
  concatenate_ofFn_unit_apply (t := S256x8) (s₁ := S256x1) (1 : Fin 2) g
    concatenates_S256x1_S256x1_S256x1_S256x1_S256x1_S256x1_S256x1_S256x1_S256x8_d1 rfl rfl (ix2 r h) h rfl (ix2 r 0) fun b hb =>
      match b, hb with
      | 0, _ => rfl
      | 1, hb => absurd rfl hb

theorem cat_apply (g : Fin 8 → FVec Ideal S256x128 .bf16) (r : Fin 256) (h : Fin 8) (d : Fin 128) :
    cat g (ix2 r (hcol h d)) = g h (ix2 r d) :=
  Idealize.ShloMosaic.concatenate_ofFn_apply (t := S256x1024) (s₁ := S256x128) (1 : Fin 2) g
    concatenates_S256x128_S256x128_S256x128_S256x128_S256x128_S256x128_S256x128_S256x128_S256x1024_d1 rfl 128 rfl (ix2 r (hcol h d)) h
    (show (128 * h.val + d.val) / 128 = h.val by omega) (ix2 r d) (show d.val = (128 * h.val + d.val) % 128 by omega) fun b hb =>
      match b, hb with
      | 0, _ => rfl
      | 1, hb => absurd rfl hb

section Slots
variable (q : FVec Ideal S256x1024 .bf16) (X Y : S4096x1024.Idx → EReal) (r : Fin 256) (h : Fin 8) (d : Fin 128)

theorem ms_apply : msW q X 0 (ix2 r h) = mx q X h (ix2 r 0) ∧ msW q X 1 (ix2 r h) = ls q X h (ix2 r 0) := by
  constructor <;> (pointwise [msW]; exact cat8_apply _ r h)

theorem tw_apply (st : Fin 3 → Fin 2 → Vec Ideal S1x256x8 .f32) (s : Fin 3) (hs : st s = tW q X) :
    tl st s 0 (ix2 r h) = mx q X h (ix2 r 0) ∧ tl st s 1 (ix2 r h) = ls q X h (ix2 r 0) := by
  constructor <;> (pointwise [tl]; rw [hs]; pointwise [tW]; exact cat8_apply _ r h)

theorem mo_apply : moW q X Y h (ix2 r d) = ov q X Y h (ix2 r d) := by
  pointwise [moW]

theorem pe_apply (po : Fin 3 → Fin 8 → Vec Ideal S1x256x128 .bf16) (s : Fin 3) (hs : po s = oW q X Y) :
    pe po s h (ix2 r d) = ov q X Y h (ix2 r d) := by
  pointwise [pe]
  rw [hs]
  pointwise [oW, ot]
end Slots

section Combine
variable (s0 : Fin 2 → Vec Ideal S256x8 .f32) (st : Fin 3 → Fin 2 → Vec Ideal S1x256x8 .f32) (o : Fin 8 → Vec Ideal S256x128 .f32) (po : Fin 3 → Fin 8 → Vec Ideal S1x256x128 .bf16)
variable (r : Fin 256) (h : Fin 8) (d : Fin 128)

theorem bc_apply (v : FVec Ideal S256x8 .f32) : bc v h (ix2 r d) = v (ix2 r h) := by
  pointwise [bc, col]

theorem hd_apply : hd s0 st o po h (ix2 r d) = Ideal.div (b3 s0 st o po h (ix2 r d)) (lst s0 st (ix2 r h)) := by
  pointwise [hd]
  rw [bc_apply]

theorem comb_apply (wo : Vec Ideal S1024x1024 .bf16) (c : Fin 1024) :
    comb s0 st o po wo (ix2 r c) = ∑ k : Fin 1024, cat (hd s0 st o po) (ix2 r k) * wo (ix2 k c) := by
  pointwise [comb]
end Combine

/-! ## The four partial results together -/

/-- The head of a column, and its place in the head. -/
def hd' (k : Fin 1024) : Fin 8 := ⟨k.val / 128, by omega⟩
def pl' (k : Fin 1024) : Fin 128 := ⟨k.val % 128, by omega⟩
theorem hcol_split (k : Fin 1024) : hcol (hd' k) (pl' k) = k := Fin.ext (by show 128 * (k.val / 128) + k.val % 128 = k.val; omega)

section Four
variable (q : FVec Ideal S256x1024 .bf16) (K V : Fin 4 → S4096x1024.Idx → EReal)
variable (s0 : Fin 2 → Vec Ideal S256x8 .f32) (st : Fin 3 → Fin 2 → Vec Ideal S1x256x8 .f32) (o : Fin 8 → Vec Ideal S256x128 .f32) (po : Fin 3 → Fin 8 → Vec Ideal S1x256x128 .bf16)
variable (r : Fin 256) (h : Fin 8) (d : Fin 128)

/-- The scores of a row against the four blocks, and one column of the four blocks' values. -/
def sF (a : Fin 4) (j : Fin 4096) : EReal := ∑ d : Fin 128, q (ix2 r (hcol h d)) * K a (ix2 j (hcol h d))
def wF (a : Fin 4) (j : Fin 4096) : EReal := V a (ix2 j (hcol h d))

theorem mx_four (a : Fin 4) : mx q (K a) h (ix2 r 0) = mB (sF q K r h) a := by
  rw [mx_apply]; exact iSup_congr fun j => sc_apply q (K a) h r j
theorem pr_four (a : Fin 4) (j : Fin 4096) : pr q (K a) h (ix2 r j) = Ideal.exp (sF q K r h a j - mB (sF q K r h) a) := by
  rw [pr_apply, mx_four, sc_apply]; rfl
theorem ls_four (a : Fin 4) : ls q (K a) h (ix2 r 0) = lB (sF q K r h) a := by
  rw [ls_apply]; exact Finset.sum_congr rfl fun j _ => pr_four q K r h a j
theorem ov_four (a : Fin 4) : ov q (K a) (V a) h (ix2 r d) = oB (sF q K r h) (wF V h d) a := by
  rw [ov_apply]; exact Finset.sum_congr rfl fun j _ => congrArg (· * _) (pr_four q K r h a j)

variable (h0 : s0 = msW q (K 0)) (ht : ∀ s : Fin 3, st s = tW q (K s.succ)) (ho : o = moW q (K 0) (V 0)) (hp : ∀ s : Fin 3, po s = oW q (K s.succ) (V s.succ))

include h0 ht in
theorem mst_four : mst s0 st (ix2 r h) = mA (sF q K r h) := by
  have e0 := (ms_apply q (K 0) r h).1
  have e (s : Fin 3) := (tw_apply q (K s.succ) r h st s (ht s)).1
  pointwise [mst]
  rw [h0, e0, e, e, e, mx_four, mx_four, mx_four, mx_four]
  rfl

include h0 ht in
theorem a0_four : a0 s0 st (ix2 r h) = fB (sF q K r h) 0 := by
  have e0 := (ms_apply q (K 0) r h).1
  have em := mst_four q K s0 st r h h0 ht
  pointwise [a0]
  rw [em, h0, e0, mx_four]
  rfl

include h0 ht in
theorem al_four (s : Fin 3) : al s0 st s (ix2 r h) = fB (sF q K r h) s.succ := by
  have e := (tw_apply q (K s.succ) r h st s (ht s)).1
  have em := mst_four q K s0 st r h h0 ht
  pointwise [al]
  rw [em, e, mx_four]
  rfl

include h0 ht in
theorem lst_four : lst s0 st (ix2 r h) = ∑ a, ∑ j, Ideal.exp (sF q K r h a j - mA (sF q K r h)) := by
  have e0 := (ms_apply q (K 0) r h).2
  have e (s : Fin 3) := (tw_apply q (K s.succ) r h st s (ht s)).2
  have f0 := a0_four q K s0 st r h h0 ht
  have f := al_four q K s0 st r h h0 ht
  rw [← sums]
  pointwise [lst, zr, l0]
  rw [f0, f, f, f, e, e, e, h0, e0, ls_four, ls_four, ls_four, ls_four]
  simp

include h0 ht ho hp in
theorem b3_four : b3 s0 st o po h (ix2 r d) = ∑ a, ∑ j, Ideal.exp (sF q K r h a j - mA (sF q K r h)) * wF V h d a j := by
  have f0 := a0_four q K s0 st r h h0 ht
  have f := al_four q K s0 st r h h0 ht
  have g (s : Fin 3) := pe_apply q (K s.succ) (V s.succ) r h d po s (hp s)
  have g0 := mo_apply q (K 0) (V 0) r h d
  have b (v) := bc_apply r h d v
  rw [← weighted]
  pointwise [b3, b2, b1, b0]
  rw [b, b, b, b, f0, f, f, f, g, g, g, ho, g0, ov_four, ov_four, ov_four, ov_four]
  rfl

include h0 ht ho hp in
/-- The combination at an index: the softmax over all four blocks, through the output weights. -/
theorem comb_four (wo : Vec Ideal S1024x1024 .bf16) (c : Fin 1024) :
    comb s0 st o po wo (ix2 r c) = ∑ k : Fin 1024,
      Ideal.div (∑ a, ∑ j, Ideal.exp (sF q K r (hd' k) a j - mA (sF q K r (hd' k))) * wF V (hd' k) (pl' k) a j)
        (∑ a, ∑ j, Ideal.exp (sF q K r (hd' k) a j - mA (sF q K r (hd' k)))) * wo (ix2 k c) := by
  rw [comb_apply]
  refine Finset.sum_congr rfl fun k _ => congrArg (· * _) ?_
  conv_lhs => rw [← hcol_split k]
  rw [cat_apply, hd_apply, b3_four q K V s0 st o po r _ _ h0 ht ho hp, lst_four q K s0 st r _ h0 ht]
end Four

end Cert.RingAttn

end
-- ==== Proof.ReferenceValue.lean ====
/-
  What the reference computes, read at an index over the extended reals: the softmax attention of every row over all the keys,
  head by head, through the output weights.
-/
module

public import proofs.«01_k».proof.Proof.KernelValue
public import proofs.«01_k».proof.Proof.Gen.ReferenceIdeal.Run

@[expose] public section

set_option maxRecDepth 16384

noncomputable section

namespace Cert.RefAttn

open Cert.ReferenceIdeal Cert.ReferenceIdeal.Gen
open Idealize.ShloMosaic
open Idealize.ShloMosaic.TcCoe
open Idealize.ShloMosaic.Pointwise
open Cert.Softmax
open Cert.RingAttn (κ hcol hd' pl' hcol_split ofBits_neg_inf)

variable (x wq wo : FVec Ideal S1024x1024 .bf16) (k v : FVec Ideal S16384x1024 .bf16)

/-- The queries, keys and values by head; the scaled scores; -/
def rq : FVec Ideal S1024x8x128 .f32 :=
  shapeCast S1024x8x128 (Host.dotGeneral dot_S1024x1024_S1024x1024_S1024x1024_1_0_0_1_n_n none (extf .f32 x bitsLt_bf16_f32) (extf .f32 wq bitsLt_bf16_f32) : FVec Ideal S1024x1024 .f32) shapeCasts_S1024x1024_S1024x8x128
def rk : FVec Ideal S16384x8x128 .f32 := shapeCast S16384x8x128 (extf .f32 k bitsLt_bf16_f32) shapeCasts_S16384x1024_S16384x8x128
def rs : FVec Ideal S8x1024x16384 .f32 :=
  mulf (Host.dotGeneral dot_S1024x8x128_S16384x8x128_S8x1024x16384_2_2_0_0_1_1 none (rq x wq) (rk k))
    (broadcastInDim S8x1024x16384 ![] bcast_S_S8x1024x16384 (constant S_ .f32 0x3DB504F3#32))
/-- their maxima and the exponentials; -/
def rm : FVec Ideal S8x1024 .f32 :=
  Host.reduce FloatOps.maximumf (rs x wq k) (constant S_ .f32 0xFF800000#32) reducesTo_S8x1024x16384_S8x1024_d2 h_S_
def rp : FVec Ideal S8x1024x16384 .f32 :=
  Host.exp (subf (rs x wq k) (broadcastInDim S8x1024x16384 ![0, 1, 2] bcast_S8x1024x1_S8x1024x16384_0_1_2
    (broadcastInDim S8x1024x1 ![0, 1] bcast_S8x1024_S8x1024x1_0_1 (rm x wq k))))
/-- their sums and the weighted values; -/
def rl : FVec Ideal S8x1024 .f32 :=
  Host.reduceAdd (rp x wq k) (constant S_ .f32 0x00000000#32) reducesTo_S8x1024x16384_S8x1024_d2 h_S_
def rn : FVec Ideal S8x128x1024 .f32 :=
  Host.dotGeneral dot_S16384x8x128_S8x1024x16384_S8x128x1024_0_2_2_1_1_0 none (rk v) (rp x wq k)
/-- the quotients, and the result. -/
def rd : FVec Ideal S1024x8x128 .f32 :=
  Host.divf (transpose S1024x8x128 [2, 0, 1] (rn x wq k v) transposes_S8x128x1024_S1024x8x128_2_0_1)
    (broadcastInDim S1024x8x128 ![0, 1, 2] bcast_S1024x8x1_S1024x8x128_0_1_2
      (transpose S1024x8x1 [1, 0, 2] (broadcastInDim S8x1024x1 ![0, 1] bcast_S8x1024_S8x1024x1_0_1 (rl x wq k)) transposes_S8x1024x1_S1024x8x1_1_0_2))
def ro : FVec Ideal S1024x1024 .f32 :=
  Host.dotGeneral dot_S1024x1024_S1024x1024_S1024x1024_1_0_0_1_n_n none (shapeCast S1024x1024 (rd x wq k v) shapeCasts_S1024x8x128_S1024x1024) (extf .f32 wo bitsLt_bf16_f32)

/-- The reference ends with this result. -/
theorem run_ro (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v25) = ro (m ((c.tc : Thread nD τ).loc main_arg0)) (m ((c.tc : Thread nD τ).loc main_arg1))
          (m ((c.tc : Thread nD τ).loc main_arg4)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Value.run m ρ

variable (i : Fin 1024) (h : Fin 8) (d : Fin 128)

theorem rq_apply : rq x wq (ix3 i h d) = ∑ c : Fin 1024, x (ix2 i c) * wq (ix2 c (hcol h d)) := by
  pointwise [rq]
  exact Finset.sum_congr rfl fun c _ => congrArg (fun z => x (ix2 i c) * wq (ix2 c z)) (Fin.ext (by show h.val * 128 + d.val = 128 * h.val + d.val; omega))
theorem rk_apply (j : Fin 16384) : rk k (ix3 j h d) = k (ix2 j (hcol h d)) := by
  pointwise [rk]
  exact congrArg (fun z => k (ix2 j z)) (Fin.ext (by show h.val * 128 + d.val = 128 * h.val + d.val; omega))

/-- The scores of a row. -/
def sR (j : Fin 16384) : EReal := (∑ d : Fin 128, (∑ c : Fin 1024, x (ix2 i c) * wq (ix2 c (hcol h d))) * k (ix2 j (hcol h d))) * κ

theorem rs_apply (j : Fin 16384) : rs x wq k (ix3 h i j) = sR x wq k i h j := by
  pointwise [rs]
  exact congrArg (· * κ) (Finset.sum_congr rfl fun d _ => congrArg₂ (· * ·) (rq_apply x wq i h d) (rk_apply k h d j))

theorem rm_apply : rm x wq k (ix2 h i) = ⨆ j, sR x wq k i h j := by
  pointwise [rm]
  rw [ofBits_neg_inf, fold_max]
  exact iSup_congr fun j => rs_apply x wq k i h j

theorem rp_apply (j : Fin 16384) : rp x wq k (ix3 h i j) = Ideal.exp (sR x wq k i h j - ⨆ j, sR x wq k i h j) := by
  pointwise [rp]
  rw [rs_apply, rm_apply]

theorem rl_apply : rl x wq k (ix2 h i) = ∑ j, Ideal.exp (sR x wq k i h j - ⨆ j, sR x wq k i h j) := by
  pointwise [rl]
  exact Finset.sum_congr rfl fun j _ => rp_apply x wq k i h j

theorem rn_apply : rn x wq k v (ix3 h d i) = ∑ j, Ideal.exp (sR x wq k i h j - ⨆ j, sR x wq k i h j) * v (ix2 j (hcol h d)) := by
  pointwise [rn]
  exact Finset.sum_congr rfl fun j _ => (congrArg₂ (· * ·) (rk_apply v h d j) (rp_apply x wq k i h j)).trans (mul_comm _ _)

theorem rd_apply : rd x wq k v (ix3 i h d) = Ideal.div (rn x wq k v (ix3 h d i)) (rl x wq k (ix2 h i)) := by
  pointwise [rd]

theorem ro_apply (c : Fin 1024) : ro x wq wo k v (ix2 i c) = ∑ e : Fin 1024, rd x wq k v (ix3 i (hd' e) (pl' e)) * wo (ix2 e c) := by
  pointwise [ro]
  rfl

/-- The result at an index. -/
theorem ro_value (c : Fin 1024) : ro x wq wo k v (ix2 i c) = ∑ e : Fin 1024,
    Ideal.div (∑ j, Ideal.exp (sR x wq k i (hd' e) j - ⨆ j, sR x wq k i (hd' e) j) * v (ix2 j (hcol (hd' e) (pl' e))))
      (∑ j, Ideal.exp (sR x wq k i (hd' e) j - ⨆ j, sR x wq k i (hd' e) j)) * wo (ix2 e c) := by
  rw [ro_apply]
  exact Finset.sum_congr rfl fun e _ => by rw [rd_apply, rn_apply, rl_apply]

end Cert.RefAttn

end
-- ==== Proof.Algebraic.lean ====
/-
  The kernel and the reference end with the same numbers: the four devices' blocks are the blocks of the reference's result.
-/
module

public import proofs.«01_k».proof.Proof.ReferenceValue

@[expose] public section

set_option maxRecDepth 16384

noncomputable section

namespace Cert.RingAttn

open Cert.KernelIdeal Cert.KernelIdeal.Gen
open Idealize.ShloMosaic Idealize.SL.Sem
open Idealize.ShloMosaic.TcCoe
open Idealize.ShloMosaic.Pointwise
open Cert.Softmax
open Cert.RefAttn (sR ro ro_value run_ro)

/-- The keys by block, the blocks counted from device `c` on. -/
def keyE (c : Fin 4) : Fin 4 × Fin 4096 ≃ Fin 16384 := ((Equiv.addLeft c).prodCongr (Equiv.refl (Fin 4096))).trans finProdFinEquiv

theorem keyE_val (c a : Fin 4) (j : Fin 4096) : (keyE c (a, j)).val = 4096 * (rot c a.val).val + j.val := by
  show j.val + 4096 * ((c + a : Fin 4)).val = 4096 * ((c.val + a.val) % 4) + j.val
  rw [Fin.val_add]; omega

theorem sum_keys (c : Fin 4) (f : Fin 16384 → EReal) : ∑ a : Fin 4, ∑ j : Fin 4096, f (keyE c (a, j)) = ∑ j, f j := by
  rw [← Equiv.sum_comp (keyE c) f, Fintype.sum_prod_type]

theorem sup_keys (c : Fin 4) (f : Fin 16384 → EReal) : ⨆ a : Fin 4, ⨆ j : Fin 4096, f (keyE c (a, j)) = ⨆ j, f j := by
  rw [← (keyE c).iSup_comp (g := f), iSup_prod]

/-- Row `r` of device `c`'s block of rows. -/
def rowG (c : Fin 4) (r : Fin 256) : Fin 1024 := ⟨256 * c.val + r.val, by omega⟩

theorem block_rows (c : Fin 4) (v : S1024x1024.Idx → EReal) (r : Fin 256) (k : Fin 1024) :
    (Layout.block ⟨2, ![256, 1024]⟩ ⟨2, ![1024, 1024]⟩ 0 4 c v : S256x1024.Idx → EReal) (ix2 r k) = v (ix2 (rowG c r) k) :=
  congrArg v (funext fun b => Fin.ext (match b with
    | 0 => (show c.val * 256 + r.val = 256 * c.val + r.val by omega)
    | 1 => (show k.val = k.val from rfl)))

theorem block_keys (c a : Fin 4) (v : (⟨2, ![16384, 1024]⟩ : Shape).Idx → EReal) (j : Fin 4096) (k : Fin 1024) :
    (Layout.block ⟨2, ![4096, 1024]⟩ ⟨2, ![16384, 1024]⟩ 0 4 (rot c a.val) v : S4096x1024.Idx → EReal) (ix2 j k) = v (ix2 (keyE c (a, j)) k) :=
  congrArg v (funext fun b => Fin.ext (match b with
    | 0 => (show (rot c a.val).val * 4096 + j.val = (keyE c (a, j)).val by rw [keyE_val]; omega)
    | 1 => (show k.val = k.val from rfl)))

section Value
variable (m : (ℓ : Loc nD τ sig) → Buf (Elt Ideal) ℓ)
variable (x wq wo : FVec Ideal S1024x1024 .bf16) (k v : FVec Ideal Cert.ReferenceIdeal.S16384x1024 .bf16)
variable (hx : ∀ c : Dev nD, m ((c.tc : Thread nD τ).loc main_arg0) = Layout.block ⟨2, ![256, 1024]⟩ ⟨2, ![1024, 1024]⟩ 0 4 c x)
variable (hwq : ∀ c : Dev nD, m ((c.tc : Thread nD τ).loc main_arg1) = wq)
variable (hk : ∀ c : Dev nD, m ((c.tc : Thread nD τ).loc main_arg2) = Layout.block ⟨2, ![4096, 1024]⟩ ⟨2, ![16384, 1024]⟩ 0 4 c k)
variable (hv : ∀ c : Dev nD, m ((c.tc : Thread nD τ).loc main_arg3) = Layout.block ⟨2, ![4096, 1024]⟩ ⟨2, ![16384, 1024]⟩ 0 4 c v)
variable (hwo : ∀ c : Dev nD, m ((c.tc : Thread nD τ).loc main_arg4) = wo)

/-- Each argument's one block is the whole array. -/
theorem xs_eq (c : Dev nD) : xs m c = m ((c.tc : Thread nD τ).loc main_arg0) :=
  Memref.read_access_unit_zero (Elt Ideal) main_arg0 (off := fun a => win0_0.index (0 : Fin 1) a * main_arg0.ty.shape.size a)
    (funext fun a => by fin_cases a <;> decide) (fun a => by fin_cases a <;> decide) _
theorem wqs_eq (c : Dev nD) : wqs m c = m ((c.tc : Thread nD τ).loc main_arg1) :=
  Memref.read_access_unit_zero (Elt Ideal) main_arg1 (off := fun a => win0_1.index (0 : Fin 1) a * main_arg1.ty.shape.size a)
    (funext fun a => by fin_cases a <;> decide) (fun a => by fin_cases a <;> decide) _
theorem wos_eq (c : Dev nD) : wos m c = m ((c.tc : Thread nD τ).loc main_arg4) :=
  Memref.read_access_unit_zero (Elt Ideal) main_arg4 (off := fun a => win0_2.index (0 : Fin 1) a * main_arg4.ty.shape.size a)
    (funext fun a => by fin_cases a <;> decide) (fun a => by fin_cases a <;> decide) _
theorem ks_eq (c : Dev nD) : ks m c = m ((c.tc : Thread nD τ).loc main_arg2) :=
  Memref.read_access_unit_zero (Elt Ideal) main_arg2 (off := fun a => win0_3.index (0 : Fin 1) a * main_arg2.ty.shape.size a)
    (funext fun a => by fin_cases a <;> decide) (fun a => by fin_cases a <;> decide) _
theorem vs_eq (c : Dev nD) : vs m c = m ((c.tc : Thread nD τ).loc main_arg3) :=
  Memref.read_access_unit_zero (Elt Ideal) main_arg3 (off := fun a => win0_4.index (0 : Fin 1) a * main_arg3.ty.shape.size a)
    (funext fun a => by fin_cases a <;> decide) (fun a => by fin_cases a <;> decide) _

include hx hwq hk in
theorem scores_eq (c : Fin 4) (r : Fin 256) (h : Fin 8) (a : Fin 4) (j : Fin 4096) :
    sF (qv m c) (fun a => ks m (rot c a.val)) r h a j = sR x wq k (rowG c r) h (keyE c (a, j)) := by
  unfold sF sR
  rw [← scaled_sum κ κ_nonneg κ_ne_top]
  refine Finset.sum_congr rfl fun d _ => ?_
  show qv m c (ix2 r (hcol h d)) * ks m (rot c a.val) (ix2 j (hcol h d)) = _
  rw [qv, pay2_apply, ks_eq, hk, block_keys]
  simp only [xs_eq, wqs_eq, hx, hwq, block_rows]

include hv in
theorem values_eq (c : Fin 4) (h : Fin 8) (d : Fin 128) (a : Fin 4) (j : Fin 4096) :
    wF (fun a => vs m (rot c a.val)) h d a j = v (ix2 (keyE c (a, j)) (hcol h d)) := by
  show vs m (rot c a.val) (ix2 j (hcol h d)) = _
  rw [vs_eq, hv, block_keys]

include hx hwq hk hv hwo in
/-- Device `c`'s result is its block of the reference's. -/
theorem outv_eq (c : Dev nD) : outv m c = Layout.block ⟨2, ![256, 1024]⟩ ⟨2, ![1024, 1024]⟩ 0 4 c (ro x wq wo k v) := by
  funext i
  idx_vars i
  rw [block_rows, ro_value, outv, comb_four (qv m c) (fun a => ks m (rot c a.val)) (fun a => vs m (rot c a.val))]
  rotate_left
  · show sOwn m c = msW (qv m c) (ks m (rot c 0)); rw [rot_zero]
  · exact fun s => rfl
  · show oOwn m c = moW (qv m c) (ks m (rot c 0)) (vs m (rot c 0)); rw [rot_zero]
  · exact fun s => rfl
  refine Finset.sum_congr rfl fun e _ => ?_
  have hS (a : Fin 4) (j : Fin 4096) := scores_eq m x wq k hx hwq hk c i0 (hd' e) a j
  have hM : mA (sF (qv m c) (fun a => ks m (rot c a.val)) i0 (hd' e)) = ⨆ j, sR x wq k (rowG c i0) (hd' e) j := by
    rw [mA_eq, ← sup_keys c]
    exact iSup_congr fun a => iSup_congr fun j => hS a j
  have hV (a : Fin 4) (j : Fin 4096) := values_eq m v hv c (hd' e) (pl' e) a j
  rw [hM, wos_eq, hwo]
  simp only [hS, hV]
  rw [sum_keys c fun j => Ideal.exp (sR x wq k (rowG c i0) (hd' e) j - ⨆ j, sR x wq k (rowG c i0) (hd' e) j) * v (ix2 j (hcol (hd' e) (pl' e))),
    sum_keys c fun j => Ideal.exp (sR x wq k (rowG c i0) (hd' e) j - ⨆ j, sR x wq k (rowG c i0) (hd' e) j)]
end Value

variable (m : (ℓ : Loc nD τ sig) → Buf (Elt Ideal) ℓ) (ρ : Dev nD → PrngReg)

/-- The result array ends at the computed contents. -/
theorem finalA_out (c : Dev nD) : finalA m ρ c (5 : Fin 6) = outv m c := by
  have hz : (fun a => win0_5.index (0 : Fin 1) a * main_v1.ty.shape.size a) = fun _ => 0 := funext fun a => by fin_cases a <;> decide
  have hr := fun f => Memref.read_access_unit_zero (Elt Ideal) main_v1 hz (fun a => by fin_cases a <;> decide) f
  have ho : (win0_5.blk (0 : Fin 1)).view.read (Elt Ideal) (finalA m ρ c (5 : Fin 6)) = outv m c := by
    unfold finalA
    rw [show cfg0.N = ((0 : Fin 1) : Fin cfg0.N).val + 1 from rfl, (dats m ρ 0 c).arrAt_succ (5 : Fin 6) (0 : Fin 1)]
    rw [show (cfg0.win (5 : Fin 6)).flush (0 : Fin 1) = true from by decide, if_pos rfl]
    exact View.read_write_univ _ _
  rwa [hr] at ho

/-- Over the extended reals the kernel's blocks are those of the reference's result, every argument unchanged. -/
theorem algebraic : Cert.algebraic_KernelIdeal_ReferenceIdeal := by
  intro m g m' g' _ hag
  refine ⟨_, ?_, (θ_run Cert.ReferenceIdeal.defs _ _).mono (fun _ h => h 0) (run_ro m' g')⟩
  exact (θ_run defs _ _).mono (fun r h c => ⟨((h.1 c (5 : Fin 6)).trans (finalA_out m g c)).trans
    (outv_eq m _ _ _ _ _ (fun c => (hag c).1) (fun c => (hag c).2.1) (fun c => (hag c).2.2.1) (fun c => (hag c).2.2.2.1) (fun c => (hag c).2.2.2.2) c),
    args_kept m g h.1 c⟩) (run_main m g)

end Cert.RingAttn

end
-- ==== Proof.lean ====
/-
  The proof of `Cert.Claim`: the claims, each from its own module.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Algebraic
public import Idealize.ShloMosaic.Adequacy
public import Idealize.ShloMosaic.Init

@[expose] public section

noncomputable section

namespace Cert.Proof

open Idealize.ShloMosaic Idealize.SL.Sem

/-- Every claim of the certificate. -/
theorem claim : Cert.Claim :=
  ⟨Cert.Kernel.Gen.facts, Cert.KernelIdeal.Gen.facts, Cert.ReferenceIdeal.Gen.facts,
    Cert.RingAttn.frame_kernel, Cert.RingAttn.frame_ideal, Cert.RingAttn.frame_reference, trivial, Cert.RingAttn.algebraic⟩

end Cert.Proof

end
